-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_projection [hPre_finite_projection : Cert.Pre_finite_projection.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_projection.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_projection [hPre_finite_projection : Cert.Pre_finite_projection.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_projection.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Kernel2Ideal_pre_finite_projection [hKernel2Ideal : Cert.Kernel2Ideal.Facts] [hPre_finite_projection : Cert.Pre_finite_projection.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_projection m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Reference2Ideal_pre_finite_projection [hReference2Ideal : Cert.Reference2Ideal.Facts] [hPre_finite_projection : Cert.Pre_finite_projection.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_projection m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite_projection [hKernel2Ideal : Cert.Kernel2Ideal.Facts] [hReference2Ideal : Cert.Reference2Ideal.Facts] [hPre_finite_projection : Cert.Pre_finite_projection.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_projection m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v46_0)) (v1 : (c : Dev Cert.Kernel2Ideal.nD) → Buf (Elt Ideal) ((c.tc : Thread Cert.Kernel2Ideal.nD Cert.Kernel2Ideal.τ).loc Cert.Kernel2Ideal.main_v46_1)) (v2 : (c : Dev Cert.Kernel2Ideal.nD) → Buf (Elt Ideal) ((c.tc : Thread Cert.Kernel2Ideal.nD Cert.Kernel2Ideal.τ).loc Cert.Kernel2Ideal.main_v46_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v46_0) = v0 c
          ∧ r.2.mem ((c.tc : Thread Cert.Kernel2Ideal.nD Cert.Kernel2Ideal.τ).loc Cert.Kernel2Ideal.main_v46_1) = v1 c
          ∧ r.2.mem ((c.tc : Thread Cert.Kernel2Ideal.nD Cert.Kernel2Ideal.τ).loc Cert.Kernel2Ideal.main_v46_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v127) = v0 c
          ∧ r.2.mem ((c.tc : Thread Cert.Reference2Ideal.nD Cert.Reference2Ideal.τ).loc Cert.Reference2Ideal.main_v154) = v1 c
          ∧ r.2.mem ((c.tc : Thread Cert.Reference2Ideal.nD Cert.Reference2Ideal.τ).loc Cert.Reference2Ideal.main_v144) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_queries_and_keys : Cert.Pre_finite_queries_and_keys.Facts) (hPre_finite_projection : Cert.Pre_finite_projection.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Kernel2Ideal_pre_finite_projection (hKernel2Ideal := hKernel2Ideal) (hPre_finite_projection := hPre_finite_projection)
    ∧ quiescent_Reference2Ideal (hReference2Ideal := hReference2Ideal)
    ∧ quiescent_Reference2Ideal_pre_finite_projection (hReference2Ideal := hReference2Ideal) (hPre_finite_projection := hPre_finite_projection)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal_pre_finite_projection (hKernel2Ideal := hKernel2Ideal) (hReference2Ideal := hReference2Ideal) (hPre_finite_projection := hPre_finite_projection)
-- ==== Pre_finite_projection.lean ====
abbrev S4x256x1024 : Shape := ⟨3, ![4, 256, 1024]⟩
abbrev S4x8192x1024 : Shape := ⟨3, ![4, 8192, 1024]⟩
abbrev S67584x1024 : Shape := ⟨2, ![67584, 1024]⟩
abbrev S33792x128 : Shape := ⟨2, ![33792, 128]⟩
abbrev S4x6144 : Shape := ⟨2, ![4, 6144]⟩
abbrev S6144 : Shape := ⟨1, ![6144]⟩
abbrev S1024 : Shape := ⟨1, ![1024]⟩
abbrev S1024x5536 : Shape := ⟨2, ![1024, 5536]⟩
abbrev S5536 : Shape := ⟨1, ![5536]⟩
abbrev S4x2048 : Shape := ⟨2, ![4, 2048]⟩
abbrev S_ : Shape := ⟨0, ![]⟩
abbrev S2048 : Shape := ⟨1, ![2048]⟩
abbrev S1024x32 : Shape := ⟨2, ![1024, 32]⟩

class Facts : Prop where
  slices_S4x6144_S4x2048_0_0 : S4x6144.Slices ![0, 0] S4x2048
  bcast_S_S4x2048 : S_.BroadcastsInDim S4x2048 (![] : Fin 0 → Fin S4x2048.rank)
  reducesTo_S4x2048_S_d0_1 : S4x2048.ReducesTo [0, 1] S_
  h_S_ : 0 < S_.numel
  slices_S6144_S2048_0 : S6144.Slices ![0] S2048
  bcast_S_S2048 : S_.BroadcastsInDim S2048 (![] : Fin 0 → Fin S2048.rank)
  reducesTo_S2048_S_d0 : S2048.ReducesTo [0] S_
  slices_S1024x5536_S1024x32_0_384 : S1024x5536.Slices ![0, 384] S1024x32
  bcast_S_S1024x32 : S_.BroadcastsInDim S1024x32 (![] : Fin 0 → Fin S1024x32.rank)
  reducesTo_S1024x32_S_d0_1 : S1024x32.ReducesTo [0, 1] S_

variable [Facts]

def fn {F : FTy → Type} [FloatOps F] (main_arg0 : FVec F S4x256x1024 .f32) (main_arg1 : FVec F S4x8192x1024 .f32) (main_arg2 : FVec F S67584x1024 .bf16) (main_arg3 : FVec F S33792x128 .f32) (main_arg4 : FVec F S4x6144 .f32) (main_arg5 : FVec F S6144 .f32) (main_arg6 : FVec F S1024 .f32) (main_arg7 : FVec F S1024 .f32) (main_arg8 : FVec F S4x6144 .f32) (main_arg9 : FVec F S6144 .f32) (main_arg10 : FVec F S1024x5536 .f32) (main_arg11 : FVec F S5536 .f32) : IVec S_ 1 :=
  let main_v0 : FVec F S4x2048 .f32 := (extractStridedSlice S4x2048 ![0, 0] · slices_S4x6144_S4x2048_0_0) main_arg8
  let main_v1 : FVec F S4x2048 .f32 := Host.absf main_v0
  let main_cst : FVec F S_ .f32 := constant S_ .f32 0x7F800000#32
  let main_v2 : FVec F S4x2048 .f32 := broadcastInDim S4x2048 ![] bcast_S_S4x2048 main_cst
  let main_v3 : IVec S4x2048 1 := cmpf .olt main_v1 main_v2
  let main_c : IVec S_ 1 := constantI S_ 1 1#1
  let main_v4 : IVec S_ 1 := (fun x v => Host.reduce IntOp.andi x v reducesTo_S4x2048_S_d0_1 h_S_) main_v3 main_c
  let main_v5 : FVec F S2048 .f32 := (extractStridedSlice S2048 ![0] · slices_S6144_S2048_0) main_arg9
  let main_v6 : FVec F S2048 .f32 := Host.absf main_v5
  let main_cst_0 : FVec F S_ .f32 := constant S_ .f32 0x7F800000#32
  let main_v7 : FVec F S2048 .f32 := broadcastInDim S2048 ![] bcast_S_S2048 main_cst_0
  let main_v8 : IVec S2048 1 := cmpf .olt main_v6 main_v7
  let main_c_1 : IVec S_ 1 := constantI S_ 1 1#1
  let main_v9 : IVec S_ 1 := (fun x v => Host.reduce IntOp.andi x v reducesTo_S2048_S_d0 h_S_) main_v8 main_c_1
  let main_v10 : IVec S_ 1 := andi main_v4 main_v9
  let main_v11 : FVec F S1024x32 .f32 := (extractStridedSlice S1024x32 ![0, 384] · slices_S1024x5536_S1024x32_0_384) main_arg10
  let main_v12 : FVec F S1024x32 .f32 := Host.absf main_v11
  let main_cst_2 : FVec F S_ .f32 := constant S_ .f32 0x7F800000#32
  let main_v13 : FVec F S1024x32 .f32 := broadcastInDim S1024x32 ![] bcast_S_S1024x32 main_cst_2
  let main_v14 : IVec S1024x32 1 := cmpf .olt main_v12 main_v13
  let main_c_3 : IVec S_ 1 := constantI S_ 1 1#1
  let main_v15 : IVec S_ 1 := (fun x v => Host.reduce IntOp.andi x v reducesTo_S1024x32_S_d0_1 h_S_) main_v14 main_c_3
  let main_v16 : IVec S_ 1 := andi main_v10 main_v15
  main_v16
-- ==== Pre_finite_queries_and_keys.lean ====
abbrev S4x256x8x96 : Shape := ⟨4, ![4, 256, 8, 96]⟩
abbrev S4x8192x8x96 : Shape := ⟨4, ![4, 8192, 8, 96]⟩
abbrev S4x256x8x64 : Shape := ⟨4, ![4, 256, 8, 64]⟩
abbrev S4x8192x8x64 : Shape := ⟨4, ![4, 8192, 8, 64]⟩
abbrev S_ : Shape := ⟨0, ![]⟩

class Facts : Prop where
  bcast_S_S4x8192x8x96 : S_.BroadcastsInDim S4x8192x8x96 (![] : Fin 0 → Fin S4x8192x8x96.rank)
  reducesTo_S4x8192x8x96_S_d0_1_2_3 : S4x8192x8x96.ReducesTo [0, 1, 2, 3] S_
  h_S_ : 0 < S_.numel
  bcast_S_S4x256x8x96 : S_.BroadcastsInDim S4x256x8x96 (![] : Fin 0 → Fin S4x256x8x96.rank)
  reducesTo_S4x256x8x96_S_d0_1_2_3 : S4x256x8x96.ReducesTo [0, 1, 2, 3] S_

variable [Facts]

def fn {F : FTy → Type} [FloatOps F] (main_arg0 : FVec F S4x256x8x96 .f32) (main_arg1 : FVec F S4x8192x8x96 .f32) (main_arg2 : FVec F S4x256x8x96 .f32) (main_arg3 : FVec F S4x8192x8x96 .f32) (main_arg4 : FVec F S4x256x8x64 .f32) (main_arg5 : FVec F S4x8192x8x64 .f32) : IVec S_ 1 :=
  let main_v0 : FVec F S4x8192x8x96 .f32 := Host.absf main_arg1
  let main_cst : FVec F S_ .f32 := constant S_ .f32 0x7F800000#32
  let main_v1 : FVec F S4x8192x8x96 .f32 := broadcastInDim S4x8192x8x96 ![] bcast_S_S4x8192x8x96 main_cst
  let main_v2 : IVec S4x8192x8x96 1 := cmpf .olt main_v0 main_v1
  let main_c : IVec S_ 1 := constantI S_ 1 1#1
  let main_v3 : IVec S_ 1 := (fun x v => Host.reduce IntOp.andi x v reducesTo_S4x8192x8x96_S_d0_1_2_3 h_S_) main_v2 main_c
  let main_v4 : FVec F S4x256x8x96 .f32 := Host.absf main_arg2
  let main_cst_0 : FVec F S_ .f32 := constant S_ .f32 0x7F800000#32
  let main_v5 : FVec F S4x256x8x96 .f32 := broadcastInDim S4x256x8x96 ![] bcast_S_S4x256x8x96 main_cst_0
  let main_v6 : IVec S4x256x8x96 1 := cmpf .olt main_v4 main_v5
  let main_c_1 : IVec S_ 1 := constantI S_ 1 1#1
  let main_v7 : IVec S_ 1 := (fun x v => Host.reduce IntOp.andi x v reducesTo_S4x256x8x96_S_d0_1_2_3 h_S_) main_v6 main_c_1
  let main_v8 : IVec S_ 1 := andi main_v3 main_v7
  let main_v9 : FVec F S4x8192x8x96 .f32 := Host.absf main_arg3
  let main_cst_2 : FVec F S_ .f32 := constant S_ .f32 0x7F800000#32
  let main_v10 : FVec F S4x8192x8x96 .f32 := broadcastInDim S4x8192x8x96 ![] bcast_S_S4x8192x8x96 main_cst_2
  let main_v11 : IVec S4x8192x8x96 1 := cmpf .olt main_v9 main_v10
  let main_c_3 : IVec S_ 1 := constantI S_ 1 1#1
  let main_v12 : IVec S_ 1 := (fun x v => Host.reduce IntOp.andi x v reducesTo_S4x8192x8x96_S_d0_1_2_3 h_S_) main_v11 main_c_3
  let main_v13 : IVec S_ 1 := andi main_v8 main_v12
  main_v13
-- ==== Kernel.lean ====
abbrev S4x256x8x96 : Shape := ⟨4, ![4, 256, 8, 96]⟩
abbrev S4x8192x8x96 : Shape := ⟨4, ![4, 8192, 8, 96]⟩
abbrev S4x256x8x64 : Shape := ⟨4, ![4, 256, 8, 64]⟩
abbrev S4x8192x8x64 : Shape := ⟨4, ![4, 8192, 8, 64]⟩
abbrev S1024x8x96 : Shape := ⟨3, ![1024, 8, 96]⟩
abbrev S_ : Shape := ⟨0, ![]⟩
abbrev S1024x8x128 : Shape := ⟨3, ![1024, 8, 128]⟩
abbrev S1024x1024 : Shape := ⟨2, ![1024, 1024]⟩
abbrev S32768x8x96 : Shape := ⟨3, ![32768, 8, 96]⟩
abbrev S32768x8x128 : Shape := ⟨3, ![32768, 8, 128]⟩
abbrev S32768x1024 : Shape := ⟨2, ![32768, 1024]⟩
abbrev S33792x1024 : Shape := ⟨2, ![33792, 1024]⟩
abbrev S1024x4x2x64 : Shape := ⟨4, ![1024, 4, 2, 64]⟩
abbrev S1024x4x1 : Shape := ⟨3, ![1024, 4, 1]⟩
abbrev S1024x4x63 : Shape := ⟨3, ![1024, 4, 63]⟩
abbrev S1024x4x1x64 : Shape := ⟨4, ![1024, 4, 1, 64]⟩
abbrev S1024x4x64 : Shape := ⟨3, ![1024, 4, 64]⟩
abbrev S1024x4x256 : Shape := ⟨3, ![1024, 4, 256]⟩
abbrev S32768x4x2x64 : Shape := ⟨4, ![32768, 4, 2, 64]⟩
abbrev S32768x4x1 : Shape := ⟨3, ![32768, 4, 1]⟩
abbrev S32768x4x63 : Shape := ⟨3, ![32768, 4, 63]⟩
abbrev S32768x4x1x64 : Shape := ⟨4, ![32768, 4, 1, 64]⟩
abbrev S32768x4x64 : Shape := ⟨3, ![32768, 4, 64]⟩
abbrev S32768x4x256 : Shape := ⟨3, ![32768, 4, 256]⟩
abbrev S32768x512 : Shape := ⟨2, ![32768, 512]⟩
abbrev S256x1024 : Shape := ⟨2, ![256, 1024]⟩
abbrev S2048x1024 : Shape := ⟨2, ![2048, 1024]⟩
abbrev S1024x512 : Shape := ⟨2, ![1024, 512]⟩
abbrev S8x1024x128 : Shape := ⟨3, ![8, 1024, 128]⟩
abbrev S1024x128 : Shape := ⟨2, ![1024, 128]⟩
abbrev S256x128 : Shape := ⟨2, ![256, 128]⟩
abbrev S1024x256 : Shape := ⟨2, ![1024, 256]⟩
abbrev S1x1024x128 : Shape := ⟨3, ![1, 1024, 128]⟩
abbrev S1024 : Shape := ⟨1, ![1024]⟩
abbrev S1024x1 : Shape := ⟨2, ![1024, 1]⟩
abbrev S2048x128 : Shape := ⟨2, ![2048, 128]⟩
abbrev S1024x2048 : Shape := ⟨2, ![1024, 2048]⟩

abbrev nBuf : Space → Nat
  | .hbm => 62
  | .vmem => 14
  | .smem => 0
  | _ => 0

abbrev bufTy : (tb : Table) → Fin (tcTables nBuf tb) → BufTy
  | .hbm, ⟨0, _⟩ => ⟨S4x256x8x96, .f32⟩
  | .hbm, ⟨1, _⟩ => ⟨S4x8192x8x96, .f32⟩
  | .hbm, ⟨2, _⟩ => ⟨S4x256x8x96, .f32⟩
  | .hbm, ⟨3, _⟩ => ⟨S4x8192x8x96, .f32⟩
  | .hbm, ⟨4, _⟩ => ⟨S4x256x8x64, .f32⟩
  | .hbm, ⟨5, _⟩ => ⟨S4x8192x8x64, .f32⟩
  | .hbm, ⟨6, _⟩ => ⟨S1024x8x96, .f32⟩
  | .hbm, ⟨7, _⟩ => ⟨S_, .i32⟩
  | .hbm, ⟨8, _⟩ => ⟨S_, .f32⟩
  | .hbm, ⟨9, _⟩ => ⟨S1024x8x128, .f32⟩
  | .hbm, ⟨10, _⟩ => ⟨S1024x1024, .f32⟩
  | .hbm, ⟨11, _⟩ => ⟨S32768x8x96, .f32⟩
  | .hbm, ⟨12, _⟩ => ⟨S_, .i32⟩
  | .hbm, ⟨13, _⟩ => ⟨S_, .f32⟩
  | .hbm, ⟨14, _⟩ => ⟨S32768x8x128, .f32⟩
  | .hbm, ⟨15, _⟩ => ⟨S32768x1024, .f32⟩
  | .hbm, ⟨16, _⟩ => ⟨S33792x1024, .f32⟩
  | .hbm, ⟨17, _⟩ => ⟨S_, .f32⟩
  | .hbm, ⟨18, _⟩ => ⟨S33792x1024, .f32⟩
  | .hbm, ⟨19, _⟩ => ⟨S33792x1024, .f32⟩
  | .hbm, ⟨20, _⟩ => ⟨S_, .f32⟩
  | .hbm, ⟨21, _⟩ => ⟨S_, .f32⟩
  | .hbm, ⟨22, _⟩ => ⟨S33792x1024, .f32⟩
  | .hbm, ⟨23, _⟩ => ⟨S33792x1024, .f32⟩
  | .hbm, ⟨24, _⟩ => ⟨S33792x1024, .bf16⟩
  | .hbm, ⟨25, _⟩ => ⟨S1024x8x96, .f32⟩
  | .hbm, ⟨26, _⟩ => ⟨S_, .i32⟩
  | .hbm, ⟨27, _⟩ => ⟨S_, .f32⟩
  | .hbm, ⟨28, _⟩ => ⟨S1024x8x128, .f32⟩
  | .hbm, ⟨29, _⟩ => ⟨S1024x1024, .f32⟩
  | .hbm, ⟨30, _⟩ => ⟨S32768x8x96, .f32⟩
  | .hbm, ⟨31, _⟩ => ⟨S_, .i32⟩
  | .hbm, ⟨32, _⟩ => ⟨S_, .f32⟩
  | .hbm, ⟨33, _⟩ => ⟨S32768x8x128, .f32⟩
  | .hbm, ⟨34, _⟩ => ⟨S32768x1024, .f32⟩
  | .hbm, ⟨35, _⟩ => ⟨S33792x1024, .f32⟩
  | .hbm, ⟨36, _⟩ => ⟨S33792x1024, .bf16⟩
  | .hbm, ⟨37, _⟩ => ⟨S1024x4x2x64, .f32⟩
  | .hbm, ⟨38, _⟩ => ⟨S_, .f32⟩
  | .hbm, ⟨39, _⟩ => ⟨S1024x4x1, .f32⟩
  | .hbm, ⟨40, _⟩ => ⟨S_, .f32⟩
  | .hbm, ⟨41, _⟩ => ⟨S1024x4x63, .f32⟩
  | .hbm, ⟨42, _⟩ => ⟨S1024x4x1x64, .f32⟩
  | .hbm, ⟨43, _⟩ => ⟨S1024x4x64, .f32⟩
  | .hbm, ⟨44, _⟩ => ⟨S1024x4x1x64, .f32⟩
  | .hbm, ⟨45, _⟩ => ⟨S1024x4x64, .f32⟩
  | .hbm, ⟨46, _⟩ => ⟨S1024x4x256, .f32⟩
  | .hbm, ⟨47, _⟩ => ⟨S1024x1024, .f32⟩
  | .hbm, ⟨48, _⟩ => ⟨S32768x4x2x64, .f32⟩
  | .hbm, ⟨49, _⟩ => ⟨S_, .f32⟩
  | .hbm, ⟨50, _⟩ => ⟨S32768x4x1, .f32⟩
  | .hbm, ⟨51, _⟩ => ⟨S_, .f32⟩
  | .hbm, ⟨52, _⟩ => ⟨S32768x4x63, .f32⟩
  | .hbm, ⟨53, _⟩ => ⟨S32768x4x1x64, .f32⟩
  | .hbm, ⟨54, _⟩ => ⟨S32768x4x64, .f32⟩
  | .hbm, ⟨55, _⟩ => ⟨S32768x4x1x64, .f32⟩
  | .hbm, ⟨56, _⟩ => ⟨S32768x4x64, .f32⟩
  | .hbm, ⟨57, _⟩ => ⟨S32768x4x256, .f32⟩
  | .hbm, ⟨58, _⟩ => ⟨S32768x1024, .f32⟩
  | .hbm, ⟨59, _⟩ => ⟨S33792x1024, .f32⟩
  | .hbm, ⟨60, _⟩ => ⟨S33792x1024, .bf16⟩
  | .hbm, ⟨61, _⟩ => ⟨S32768x512, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1024x512, .bf16⟩
  | .local _ .vmem, ⟨11, _⟩ => ⟨S1024x512, .bf16⟩
  | .local _ .vmem, ⟨12, _⟩ => ⟨S8x1024x128, .f32⟩
  | .local _ .vmem, ⟨13, _⟩ => ⟨S8x1024x128, .f32⟩
  | _, _ => ⟨S4x256x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_call2_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_call3_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 4], ![false, false, false]⟩

def k0_mult1 (i : grid0.Coords) : BitVec 32 :=
  let c1024_i32 : BitVec 32 := 1024#32
  let arg0 : BitVec 32 := BitVec.ofNat 32 (i 0).val
  let c8192_i32 : BitVec 32 := 8192#32
  let v0 : BitVec 32 := Scalar.muli arg0 c8192_i32
  let v1 : BitVec 32 := Scalar.addi c1024_i32 v0
  let arg2 : BitVec 32 := BitVec.ofNat 32 (i 2).val
  let c2048_i32 : BitVec 32 := 2048#32
  let v2 : BitVec 32 := Scalar.muli arg2 c2048_i32
  let v3 : BitVec 32 := Scalar.addi v1 v2
  v3
def k0_mult2 (i : grid0.Coords) : BitVec 32 :=
  let c1024_i32 : BitVec 32 := 1024#32
  let arg0 : BitVec 32 := BitVec.ofNat 32 (i 0).val
  let c8192_i32 : BitVec 32 := 8192#32
  let v0 : BitVec 32 := Scalar.muli arg0 c8192_i32
  let v1 : BitVec 32 := Scalar.addi c1024_i32 v0
  let arg2 : BitVec 32 := BitVec.ofNat 32 (i 2).val
  let c2048_i32 : BitVec 32 := 2048#32
  let v2 : BitVec 32 := Scalar.muli arg2 c2048_i32
  let v3 : BitVec 32 := Scalar.addi v1 v2
  v3
def k0_cond2 (i : grid0.Coords) : BitVec 1 :=
  let arg2 : BitVec 32 := BitVec.ofNat 32 (i 2).val
  let c3_i32 : BitVec 32 := 3#32
  let v243 : BitVec 1 := Scalar.cmpi .eq arg2 c3_i32
  let v244 : BitVec 32 := Scalar.extui v243
  let c0_i32_153 : BitVec 32 := 0#32
  let v245 : BitVec 1 := Scalar.cmpi .ne v244 c0_i32_153
  v245

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c1_i32 : BitVec 32 := 1#32
  let v1 : BitVec 32 := Scalar.addi c1_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8192_i32 : BitVec 32 := 8192#32
  let v0 : BitVec 32 := Scalar.muli arg0 c8192_i32
  let c1024_i32 : BitVec 32 := 1024#32
  let v1 : BitVec 32 := Scalar.addi c1024_i32 v0
  let c2048_i32 : BitVec 32 := 2048#32
  let v2 : BitVec 32 := Scalar.muli arg2 c2048_i32
  let v3 : BitVec 32 := Scalar.addi v1 v2
  let v4 : BitVec 32 := v3
  let c0_i32 : BitVec 32 := 0#32
  let c0_i32_0 : BitVec 32 := 0#32
  ![v4.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8192_i32 : BitVec 32 := 8192#32
  let v0 : BitVec 32 := Scalar.muli arg0 c8192_i32
  let c1024_i32 : BitVec 32 := 1024#32
  let v1 : BitVec 32 := Scalar.addi c1024_i32 v0
  let c2048_i32 : BitVec 32 := 2048#32
  let v2 : BitVec 32 := Scalar.muli arg2 c2048_i32
  let v3 : BitVec 32 := Scalar.addi v1 v2
  let v4 : BitVec 32 := v3
  let c0_i32 : BitVec 32 := 0#32
  let c0_i32_0 : BitVec 32 := 0#32
  ![v4.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S4x256x8x96 : Shape := ⟨4, ![4, 256, 8, 96]⟩
abbrev S4x8192x8x96 : Shape := ⟨4, ![4, 8192, 8, 96]⟩
abbrev S4x256x8x64 : Shape := ⟨4, ![4, 256, 8, 64]⟩
abbrev S4x8192x8x64 : Shape := ⟨4, ![4, 8192, 8, 64]⟩
abbrev S4x8448x8x96 : Shape := ⟨4, ![4, 8448, 8, 96]⟩
abbrev S4x8448x8x64 : Shape := ⟨4, ![4, 8448, 8, 64]⟩
abbrev S4x8x8192x8448 : Shape := ⟨4, ![4, 8, 8192, 8448]⟩
abbrev S_ : Shape := ⟨0, ![]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩
abbrev S32768x512 : Shape := ⟨2, ![32768, 512]⟩

abbrev nBuf : Space → Nat
  | .hbm => 30
  | .vmem => 0
  | .smem => 0
  | _ => 0

abbrev bufTy : (tb : Table) → Fin (tcTables nBuf tb) → BufTy
  | .hbm, ⟨0, _⟩ => ⟨S4x256x8x96, .f32⟩
  | .hbm, ⟨1, _⟩ => ⟨S4x8192x8x96, .f32⟩
  | .hbm, ⟨2, _⟩ => ⟨S4x256x8x96, .f32⟩
  | .hbm, ⟨3, _⟩ => ⟨S4x8192x8x96, .f32⟩
  | .hbm, ⟨4, _⟩ => ⟨S4x256x8x64, .f32⟩
  | .hbm, ⟨5, _⟩ => ⟨S4x8192x8x64, .f32⟩
  | .hbm, ⟨6, _⟩ => ⟨S4x8448x8x96, .f32⟩
  | .hbm, ⟨7, _⟩ => ⟨S4x8448x8x64, .f32⟩
  | .hbm, ⟨8, _⟩ => ⟨S4x8x8192x8448, .f32⟩
  | .hbm, ⟨9, _⟩ => ⟨S_, .f32⟩
  | .hbm, ⟨10, _⟩ => ⟨S4x8x8192x8448, .f32⟩
  | .hbm, ⟨11, _⟩ => ⟨S4x8x8192x8448, .f32⟩
  | .hbm, ⟨12, _⟩ => ⟨S_, .f32⟩
  | .hbm, ⟨13, _⟩ => ⟨S4x8x8192, .f32⟩
  | .hbm, ⟨14, _⟩ => ⟨S_, .f32⟩
  | .hbm, ⟨15, _⟩ => ⟨S4x8x8192, .f32⟩
  | .hbm, ⟨16, _⟩ => ⟨S4x8x8192, .f32⟩
  | .hbm, ⟨17, _⟩ => ⟨S4x8x8192x1, .f32⟩
  | .hbm, ⟨18, _⟩ => ⟨S4x8x8192x8448, .f32⟩
  | .hbm, ⟨19, _⟩ => ⟨S4x8x8192x8448, .f32⟩
  | .hbm, ⟨20, _⟩ => ⟨S4x8x8192x8448, .f32⟩
  | .hbm, ⟨21, _⟩ => ⟨S_, .f32⟩
  | .hbm, ⟨22, _⟩ => ⟨S4x8x8192, .f32⟩
  | .hbm, ⟨23, _⟩ => ⟨S4x8x8192x1, .f32⟩
  | .hbm, ⟨24, _⟩ => ⟨S4x8x8192x8448, .f32⟩
  | .hbm, ⟨25, _⟩ => ⟨S4x8x8192x8448, .f32⟩
  | .hbm, ⟨26, _⟩ => ⟨S4x8x64x8192, .f32⟩
  | .hbm, ⟨27, _⟩ => ⟨S4x8192x8x64, .f32⟩
  | .hbm, ⟨28, _⟩ => ⟨S32768x512, .f32⟩
  | .hbm, ⟨29, _⟩ => ⟨S32768x512, .bf16⟩
  | _, _ => ⟨S4x256x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Kernel2.lean ====
abbrev S4x256x1024 : Shape := ⟨3, ![4, 256, 1024]⟩
abbrev S4x8192x1024 : Shape := ⟨3, ![4, 8192, 1024]⟩
abbrev S67584x1024 : Shape := ⟨2, ![67584, 1024]⟩
abbrev S33792x128 : Shape := ⟨2, ![33792, 128]⟩
abbrev S4x6144 : Shape := ⟨2, ![4, 6144]⟩
abbrev S6144 : Shape := ⟨1, ![6144]⟩
abbrev S1024 : Shape := ⟨1, ![1024]⟩
abbrev S1024x5536 : Shape := ⟨2, ![1024, 5536]⟩
abbrev S5536 : Shape := ⟨1, ![5536]⟩
abbrev S32 : Shape := ⟨1, ![32]⟩
abbrev S1024x1024 : Shape := ⟨2, ![1024, 1024]⟩
abbrev S32768x1024 : Shape := ⟨2, ![32768, 1024]⟩
abbrev S33792x1024 : Shape := ⟨2, ![33792, 1024]⟩
abbrev S1024x32 : Shape := ⟨2, ![1024, 32]⟩
abbrev S_ : Shape := ⟨0, ![]⟩
abbrev S32x1 : Shape := ⟨2, ![32, 1]⟩
abbrev S1x32 : Shape := ⟨2, ![1, 32]⟩
abbrev S1024x64 : Shape := ⟨2, ![1024, 64]⟩
abbrev S1024x2048 : Shape := ⟨2, ![1024, 2048]⟩
abbrev S1024x3072 : Shape := ⟨2, ![1024, 3072]⟩
abbrev S1024x384 : Shape := ⟨2, ![1024, 384]⟩
abbrev S1024x5632 : Shape := ⟨2, ![1024, 5632]⟩
abbrev S1x5536 : Shape := ⟨2, ![1, 5536]⟩
abbrev S1x64 : Shape := ⟨2, ![1, 64]⟩
abbrev S1x2048 : Shape := ⟨2, ![1, 2048]⟩
abbrev S1x3072 : Shape := ⟨2, ![1, 3072]⟩
abbrev S1x384 : Shape := ⟨2, ![1, 384]⟩
abbrev S1x5632 : Shape := ⟨2, ![1, 5632]⟩
abbrev S1x6144 : Shape := ⟨2, ![1, 6144]⟩
abbrev S3x6144 : Shape := ⟨2, ![3, 6144]⟩
abbrev S8x6144 : Shape := ⟨2, ![8, 6144]⟩
abbrev S8x6x1024 : Shape := ⟨3, ![8, 6, 1024]⟩
abbrev S8x2x1024 : Shape := ⟨3, ![8, 2, 1024]⟩
abbrev S8x8x1024 : Shape := ⟨3, ![8, 8, 1024]⟩
abbrev S1x1024 : Shape := ⟨2, ![1, 1024]⟩
abbrev S33792x5632 : Shape := ⟨2, ![33792, 5632]⟩
abbrev S4x4x4x2048x128 : Shape := ⟨5, ![4, 4, 4, 2048, 128]⟩
abbrev S512x1024 : Shape := ⟨2, ![512, 1024]⟩
abbrev S512x128 : Shape := ⟨2, ![512, 128]⟩
abbrev S1x8x1024 : Shape := ⟨3, ![1, 8, 1024]⟩
abbrev S512x5632 : Shape := ⟨2, ![512, 5632]⟩
abbrev S1x4x4x128x128 : Shape := ⟨5, ![1, 4, 4, 128, 128]⟩
abbrev S512x1 : Shape := ⟨2, ![512, 1]⟩
abbrev S1x1x1024 : Shape := ⟨3, ![1, 1, 1024]⟩
abbrev S512 : Shape := ⟨1, ![512]⟩
abbrev S1024x512 : Shape := ⟨2, ![1024, 512]⟩
abbrev S512x512 : Shape := ⟨2, ![512, 512]⟩
abbrev S1x512 : Shape := ⟨2, ![1, 512]⟩
abbrev S16x128 : Shape := ⟨2, ![16, 128]⟩
abbrev S1x1x1x16x128 : Shape := ⟨5, ![1, 1, 1, 16, 128]⟩

abbrev nBuf : Space → Nat
  | .hbm => 73
  | .vmem => 22
  | .smem => 0
  | _ => 0

abbrev bufTy : (tb : Table) → Fin (tcTables nBuf tb) → BufTy
  | .hbm, ⟨0, _⟩ => ⟨S4x256x1024, .f32⟩
  | .hbm, ⟨1, _⟩ => ⟨S4x8192x1024, .f32⟩
  | .hbm, ⟨2, _⟩ => ⟨S67584x1024, .bf16⟩
  | .hbm, ⟨3, _⟩ => ⟨S33792x128, .f32⟩
  | .hbm, ⟨4, _⟩ => ⟨S4x6144, .f32⟩
  | .hbm, ⟨5, _⟩ => ⟨S6144, .f32⟩
  | .hbm, ⟨6, _⟩ => ⟨S1024, .f32⟩
  | .hbm, ⟨7, _⟩ => ⟨S1024, .f32⟩
  | .hbm, ⟨8, _⟩ => ⟨S4x6144, .f32⟩
  | .hbm, ⟨9, _⟩ => ⟨S6144, .f32⟩
  | .hbm, ⟨10, _⟩ => ⟨S1024x5536, .f32⟩
  | .hbm, ⟨11, _⟩ => ⟨S5536, .f32⟩
  | .hbm, ⟨12, _⟩ => ⟨S32, .i32⟩
  | .hbm, ⟨13, _⟩ => ⟨S32, .i1⟩
  | .hbm, ⟨14, _⟩ => ⟨S32, .f32⟩
  | .hbm, ⟨15, _⟩ => ⟨S32, .i1⟩
  | .hbm, ⟨16, _⟩ => ⟨S1024x1024, .f32⟩
  | .hbm, ⟨17, _⟩ => ⟨S32768x1024, .f32⟩
  | .hbm, ⟨18, _⟩ => ⟨S33792x1024, .f32⟩
  | .hbm, ⟨19, _⟩ => ⟨S1024x32, .f32⟩
  | .hbm, ⟨20, _⟩ => ⟨S_, .i32⟩
  | .hbm, ⟨21, _⟩ => ⟨S32, .i32⟩
  | .hbm, ⟨22, _⟩ => ⟨S32, .i32⟩
  | .hbm, ⟨23, _⟩ => ⟨S32, .i32⟩
  | .hbm, ⟨24, _⟩ => ⟨S32x1, .i32⟩
  | .hbm, ⟨25, _⟩ => ⟨S1024x32, .f32⟩
  | .hbm, ⟨26, _⟩ => ⟨S1x32, .f32⟩
  | .hbm, ⟨27, _⟩ => ⟨S1024x32, .f32⟩
  | .hbm, ⟨28, _⟩ => ⟨S1024x32, .f32⟩
  | .hbm, ⟨29, _⟩ => ⟨S_, .f32⟩
  | .hbm, ⟨30, _⟩ => ⟨S1024x64, .f32⟩
  | .hbm, ⟨31, _⟩ => ⟨S1024x2048, .f32⟩
  | .hbm, ⟨32, _⟩ => ⟨S1024x3072, .f32⟩
  | .hbm, ⟨33, _⟩ => ⟨S1024x384, .f32⟩
  | .hbm, ⟨34, _⟩ => ⟨S1024x5632, .f32⟩
  | .hbm, ⟨35, _⟩ => ⟨S1024x5632, .bf16⟩
  | .hbm, ⟨36, _⟩ => ⟨S1x5536, .f32⟩
  | .hbm, ⟨37, _⟩ => ⟨S1x32, .f32⟩
  | .hbm, ⟨38, _⟩ => ⟨S_, .i32⟩
  | .hbm, ⟨39, _⟩ => ⟨S32, .i32⟩
  | .hbm, ⟨40, _⟩ => ⟨S32, .i32⟩
  | .hbm, ⟨41, _⟩ => ⟨S32, .i32⟩
  | .hbm, ⟨42, _⟩ => ⟨S32x1, .i32⟩
  | .hbm, ⟨43, _⟩ => ⟨S1x32, .f32⟩
  | .hbm, ⟨44, _⟩ => ⟨S1x32, .f32⟩
  | .hbm, ⟨45, _⟩ => ⟨S1x32, .f32⟩
  | .hbm, ⟨46, _⟩ => ⟨S_, .f32⟩
  | .hbm, ⟨47, _⟩ => ⟨S1x64, .f32⟩
  | .hbm, ⟨48, _⟩ => ⟨S1x2048, .f32⟩
  | .hbm, ⟨49, _⟩ => ⟨S1x3072, .f32⟩
  | .hbm, ⟨50, _⟩ => ⟨S1x384, .f32⟩
  | .hbm, ⟨51, _⟩ => ⟨S1x5632, .f32⟩
  | .hbm, ⟨52, _⟩ => ⟨S1x6144, .f32⟩
  | .hbm, ⟨53, _⟩ => ⟨S_, .f32⟩
  | .hbm, ⟨54, _⟩ => ⟨S3x6144, .f32⟩
  | .hbm, ⟨55, _⟩ => ⟨S8x6144, .f32⟩
  | .hbm, ⟨56, _⟩ => ⟨S8x6x1024, .f32⟩
  | .hbm, ⟨57, _⟩ => ⟨S_, .f32⟩
  | .hbm, ⟨58, _⟩ => ⟨S8x2x1024, .f32⟩
  | .hbm, ⟨59, _⟩ => ⟨S8x8x1024, .f32⟩
  | .hbm, ⟨60, _⟩ => ⟨S1x6144, .f32⟩
  | .hbm, ⟨61, _⟩ => ⟨S_, .f32⟩
  | .hbm, ⟨62, _⟩ => ⟨S3x6144, .f32⟩
  | .hbm, ⟨63, _⟩ => ⟨S8x6144, .f32⟩
  | .hbm, ⟨64, _⟩ => ⟨S8x6x1024, .f32⟩
  | .hbm, ⟨65, _⟩ => ⟨S_, .f32⟩
  | .hbm, ⟨66, _⟩ => ⟨S8x2x1024, .f32⟩
  | .hbm, ⟨67, _⟩ => ⟨S8x8x1024, .f32⟩
  | .hbm, ⟨68, _⟩ => ⟨S1x1024, .f32⟩
  | .hbm, ⟨69, _⟩ => ⟨S1x1024, .f32⟩
  | .hbm, ⟨70, _⟩ => ⟨S33792x1024, .f32⟩
  | .hbm, ⟨71, _⟩ => ⟨S33792x5632, .bf16⟩
  | .hbm, ⟨72, _⟩ => ⟨S4x4x4x2048x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x128, .f32⟩
  | .local _ .vmem, ⟨7, _⟩ => ⟨S512x128, .f32⟩
  | .local _ .vmem, ⟨8, _⟩ => ⟨S1x8x1024, .f32⟩
  | .local _ .vmem, ⟨9, _⟩ => ⟨S1x8x1024, .f32⟩
  | .local _ .vmem, ⟨10, _⟩ => ⟨S1x1024, .f32⟩
  | .local _ .vmem, ⟨11, _⟩ => ⟨S1x1024, .f32⟩
  | .local _ .vmem, ⟨12, _⟩ => ⟨S1x8x1024, .f32⟩
  | .local _ .vmem, ⟨13, _⟩ => ⟨S1x8x1024, .f32⟩
  | .local _ .vmem, ⟨14, _⟩ => ⟨S1024x5632, .bf16⟩
  | .local _ .vmem, ⟨15, _⟩ => ⟨S1x5632, .f32⟩
  | .local _ .vmem, ⟨16, _⟩ => ⟨S512x1024, .f32⟩
  | .local _ .vmem, ⟨17, _⟩ => ⟨S512x1024, .f32⟩
  | .local _ .vmem, ⟨18, _⟩ => ⟨S512x5632, .bf16⟩
  | .local _ .vmem, ⟨19, _⟩ => ⟨S512x5632, .bf16⟩
  | .local _ .vmem, ⟨20, _⟩ => ⟨S1x4x4x128x128, .f32⟩
  | .local _ .vmem, ⟨21, _⟩ => ⟨S1x4x4x128x128, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_cst : Ref sig .tc := ⟨.hbm, 14, rfl⟩
abbrev main_c_1 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c_2 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46_0 : Ref sig .tc := ⟨.hbm, 70, rfl⟩
abbrev main_v46_1 : Ref sig .tc := ⟨.hbm, 71, rfl⟩
abbrev main_v46_2 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c66_i32 : BitVec 32 := 66#32
  let v0 : BitVec 32 := Scalar.addi c66_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c2_i32 : BitVec 32 := 2#32
  let v0 : BitVec 1 := Scalar.cmpi .slt arg0 c2_i32
  let c2_i32_0 : BitVec 32 := 2#32
  let v1 : BitVec 32 := Scalar.subi arg0 c2_i32_0
  let c0_i32 : BitVec 32 := 0#32
  let v2 : BitVec 32 := Scalar.maxsi v1 c0_i32
  let c16_i32 : BitVec 32 := 16#32
  let v3 : BitVec 32 := Scalar.divsi v2 c16_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c16_i32 c0_i32_3
  let v10 : BitVec 32 := Scalar.extui v9
  let c0_i32_4 : BitVec 32 := 0#32
  let v11 : BitVec 1 := Scalar.cmpi .slt c16_i32 c0_i32_4
  let v12 : BitVec 32 := Scalar.extui v11
  let v13 : BitVec 32 := Scalar.subi v10 v12
  let v14 : BitVec 1 := Scalar.cmpi .ne v8 v13
  let v15 : BitVec 32 := Scalar.remsi v2 c16_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v0 c4_i32 v19
  let c0_i32_6 : BitVec 32 := 0#32
  let c0_i32_7 : BitVec 32 := 0#32
  let c0_i32_8 : BitVec 32 := 0#32
  ![v20.toNat, c0_i32_6.toNat, c0_i32_7.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c2_i32 : BitVec 32 := 2#32
  let v0 : BitVec 1 := Scalar.cmpi .slt arg0 c2_i32
  let c2_i32_0 : BitVec 32 := 2#32
  let v1 : BitVec 32 := Scalar.subi arg0 c2_i32_0
  let c0_i32 : BitVec 32 := 0#32
  let v2 : BitVec 32 := Scalar.maxsi v1 c0_i32
  let c16_i32 : BitVec 32 := 16#32
  let v3 : BitVec 32 := Scalar.divsi v2 c16_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c16_i32 c0_i32_3
  let v10 : BitVec 32 := Scalar.extui v9
  let c0_i32_4 : BitVec 32 := 0#32
  let v11 : BitVec 1 := Scalar.cmpi .slt c16_i32 c0_i32_4
  let v12 : BitVec 32 := Scalar.extui v11
  let v13 : BitVec 32 := Scalar.subi v10 v12
  let v14 : BitVec 1 := Scalar.cmpi .ne v8 v13
  let v15 : BitVec 32 := Scalar.remsi v2 c16_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v0 c4_i32 v19
  let c0_i32_6 : BitVec 32 := 0#32
  let c0_i32_7 : BitVec 32 := 0#32
  let c0_i32_8 : BitVec 32 := 0#32
  ![v20.toNat, c0_i32_6.toNat, c0_i32_7.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 5 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.subi arg0 c2_i32_5
  let c0_i32_6 : BitVec 32 := 0#32
  let v20 : BitVec 32 := Scalar.maxsi v19 c0_i32_6
  let c16_i32_7 : BitVec 32 := 16#32
  let c0_i32_8 : BitVec 32 := 0#32
  let v21 : BitVec 1 := Scalar.cmpi .eq c16_i32_7 c0_i32_8
  let c1_i32_9 : BitVec 32 := 1#32
  let v22 : BitVec 32 := Scalar.select v21 c1_i32_9 c16_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  let c0_i32_15 : BitVec 32 := 0#32
  let c0_i32_16 : BitVec 32 := 0#32
  ![v18.toNat, c0_i32_13.toNat, c0_i32_14.toNat, v30.toNat, c0_i32_15.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x4x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S4x256x1024 : Shape := ⟨3, ![4, 256, 1024]⟩
abbrev S4x8192x1024 : Shape := ⟨3, ![4, 8192, 1024]⟩
abbrev S67584x1024 : Shape := ⟨2, ![67584, 1024]⟩
abbrev S33792x128 : Shape := ⟨2, ![33792, 128]⟩
abbrev S4x6144 : Shape := ⟨2, ![4, 6144]⟩
abbrev S6144 : Shape := ⟨1, ![6144]⟩
abbrev S1024 : Shape := ⟨1, ![1024]⟩
abbrev S1024x5536 : Shape := ⟨2, ![1024, 5536]⟩
abbrev S5536 : Shape := ⟨1, ![5536]⟩
abbrev S33792x1024 : Shape := ⟨2, ![33792, 1024]⟩
abbrev S33792x1 : Shape := ⟨2, ![33792, 1]⟩
abbrev S1024x1024 : Shape := ⟨2, ![1024, 1024]⟩
abbrev S32768x1024 : Shape := ⟨2, ![32768, 1024]⟩
abbrev S4x1024 : Shape := ⟨2, ![4, 1024]⟩
abbrev S4x1x1024 : Shape := ⟨3, ![4, 1, 1024]⟩
abbrev S1x1x1024 : Shape := ⟨3, ![1, 1, 1024]⟩
abbrev S_ : Shape := ⟨0, ![]⟩
abbrev S4x256 : Shape := ⟨2, ![4, 256]⟩
abbrev S4x256x1 : Shape := ⟨3, ![4, 256, 1]⟩
abbrev S4x8192 : Shape := ⟨2, ![4, 8192]⟩
abbrev S4x8192x1 : Shape := ⟨3, ![4, 8192, 1]⟩
abbrev S33792x5536 : Shape := ⟨2, ![33792, 5536]⟩
abbrev S1x5536 : Shape := ⟨2, ![1, 5536]⟩
abbrev S33792x256 : Shape := ⟨2, ![33792, 256]⟩
abbrev S33792x32 : Shape := ⟨2, ![33792, 32]⟩
abbrev S33792x5120 : Shape := ⟨2, ![33792, 5120]⟩
abbrev S32768x512 : Shape := ⟨2, ![32768, 512]⟩
abbrev S4x8192x4x128 : Shape := ⟨4, ![4, 8192, 4, 128]⟩
abbrev S4x4x8192x128 : Shape := ⟨4, ![4, 4, 8192, 128]⟩
abbrev S16x128x4x2048 : Shape := ⟨4, ![16, 128, 4, 2048]⟩
abbrev S16x4x128x2048 : Shape := ⟨4, ![16, 4, 128, 2048]⟩
abbrev S4x4x4x2048x128 : Shape := ⟨5, ![4, 4, 4, 2048, 128]⟩
abbrev S33792x8 : Shape := ⟨2, ![33792, 8]⟩
abbrev S33792x64 : Shape := ⟨2, ![33792, 64]⟩
abbrev S33792x5632 : Shape := ⟨2, ![33792, 5632]⟩

abbrev nBuf : Space → Nat
  | .hbm => 192
  | .vmem => 0
  | .smem => 0
  | _ => 0

abbrev hbmTy0_0 (i : Nat) : BufTy := match i % 128 with
  | 0 => ⟨S4x256x1024, .f32⟩
  | 1 => ⟨S4x8192x1024, .f32⟩
  | 2 => ⟨S67584x1024, .bf16⟩
  | 3 => ⟨S33792x128, .f32⟩
  | 4 => ⟨S4x6144, .f32⟩
  | 5 => ⟨S6144, .f32⟩
  | 6 => ⟨S1024, .f32⟩
  | 7 => ⟨S1024, .f32⟩
  | 8 => ⟨S4x6144, .f32⟩
  | 9 => ⟨S6144, .f32⟩
  | 10 => ⟨S1024x5536, .f32⟩
  | 11 => ⟨S5536, .f32⟩
  | 12 => ⟨S33792x1024, .bf16⟩
  | 13 => ⟨S33792x1024, .bf16⟩
  | 14 => ⟨S33792x1024, .f32⟩
  | 15 => ⟨S33792x1, .f32⟩
  | 16 => ⟨S33792x1024, .f32⟩
  | 17 => ⟨S33792x1024, .f32⟩
  | 18 => ⟨S33792x1024, .f32⟩
  | 19 => ⟨S33792x1, .f32⟩
  | 20 => ⟨S33792x1024, .f32⟩
  | 21 => ⟨S33792x1024, .f32⟩
  | 22 => ⟨S33792x1024, .f32⟩
  | 23 => ⟨S1024x1024, .f32⟩
  | 24 => ⟨S4x256x1024, .f32⟩
  | 25 => ⟨S32768x1024, .f32⟩
  | 26 => ⟨S4x8192x1024, .f32⟩
  | 27 => ⟨S4x1024, .f32⟩
  | 28 => ⟨S4x1x1024, .f32⟩
  | 29 => ⟨S1024, .f32⟩
  | 30 => ⟨S1x1x1024, .f32⟩
  | 31 => ⟨S_, .f32⟩
  | 32 => ⟨S4x256x1024, .f32⟩
  | 33 => ⟨S4x256x1024, .f32⟩
  | 34 => ⟨S4x256x1024, .f32⟩
  | 35 => ⟨S4x256x1024, .f32⟩
  | 36 => ⟨S4x256x1024, .f32⟩
  | 37 => ⟨S_, .f32⟩
  | 38 => ⟨S4x256, .f32⟩
  | 39 => ⟨S4x256x1, .f32⟩
  | 40 => ⟨S_, .f32⟩
  | 41 => ⟨S4x256x1, .f32⟩
  | 42 => ⟨S4x256x1, .f32⟩
  | 43 => ⟨S4x256x1024, .f32⟩
  | 44 => ⟨S4x256x1024, .f32⟩
  | 45 => ⟨S4x256x1024, .f32⟩
  | 46 => ⟨S_, .f32⟩
  | 47 => ⟨S4x256, .f32⟩
  | 48 => ⟨S4x256x1, .f32⟩
  | 49 => ⟨S_, .f32⟩
  | 50 => ⟨S4x256x1, .f32⟩
  | 51 => ⟨S4x256x1, .f32⟩
  | 52 => ⟨S_, .f32⟩
  | 53 => ⟨S4x256x1, .f32⟩
  | 54 => ⟨S4x256x1, .f32⟩
  | 55 => ⟨S4x256x1, .f32⟩
  | 56 => ⟨S4x256x1024, .f32⟩
  | 57 => ⟨S4x256x1024, .f32⟩
  | 58 => ⟨S1x1x1024, .f32⟩
  | 59 => ⟨S4x256x1024, .f32⟩
  | 60 => ⟨S4x256x1024, .f32⟩
  | 61 => ⟨S1x1x1024, .f32⟩
  | 62 => ⟨S4x256x1024, .f32⟩
  | 63 => ⟨S4x256x1024, .f32⟩
  | 64 => ⟨S_, .f32⟩
  | 65 => ⟨S4x8192x1024, .f32⟩
  | 66 => ⟨S4x8192x1024, .f32⟩
  | 67 => ⟨S4x8192x1024, .f32⟩
  | 68 => ⟨S4x8192x1024, .f32⟩
  | 69 => ⟨S4x8192x1024, .f32⟩
  | 70 => ⟨S_, .f32⟩
  | 71 => ⟨S4x8192, .f32⟩
  | 72 => ⟨S4x8192x1, .f32⟩
  | 73 => ⟨S_, .f32⟩
  | 74 => ⟨S4x8192x1, .f32⟩
  | 75 => ⟨S4x8192x1, .f32⟩
  | 76 => ⟨S4x8192x1024, .f32⟩
  | 77 => ⟨S4x8192x1024, .f32⟩
  | 78 => ⟨S4x8192x1024, .f32⟩
  | 79 => ⟨S_, .f32⟩
  | 80 => ⟨S4x8192, .f32⟩
  | 81 => ⟨S4x8192x1, .f32⟩
  | 82 => ⟨S_, .f32⟩
  | 83 => ⟨S4x8192x1, .f32⟩
  | 84 => ⟨S4x8192x1, .f32⟩
  | 85 => ⟨S_, .f32⟩
  | 86 => ⟨S4x8192x1, .f32⟩
  | 87 => ⟨S4x8192x1, .f32⟩
  | 88 => ⟨S4x8192x1, .f32⟩
  | 89 => ⟨S4x8192x1024, .f32⟩
  | 90 => ⟨S4x8192x1024, .f32⟩
  | 91 => ⟨S1x1x1024, .f32⟩
  | 92 => ⟨S4x8192x1024, .f32⟩
  | 93 => ⟨S4x8192x1024, .f32⟩
  | 94 => ⟨S1x1x1024, .f32⟩
  | 95 => ⟨S4x8192x1024, .f32⟩
  | 96 => ⟨S4x8192x1024, .f32⟩
  | 97 => ⟨S4x1024, .f32⟩
  | 98 => ⟨S4x1x1024, .f32⟩
  | 99 => ⟨S4x1024, .f32⟩
  | 100 => ⟨S4x1x1024, .f32⟩
  | 101 => ⟨S1024, .f32⟩
  | 102 => ⟨S1x1x1024, .f32⟩
  | 103 => ⟨S1024, .f32⟩
  | 104 => ⟨S1x1x1024, .f32⟩
  | 105 => ⟨S_, .f32⟩
  | 106 => ⟨S4x8192, .f32⟩
  | 107 => ⟨S4x8192x1, .f32⟩
  | 108 => ⟨S_, .f32⟩
  | 109 => ⟨S4x8192x1, .f32⟩
  | 110 => ⟨S4x8192x1, .f32⟩
  | 111 => ⟨S4x8192x1024, .f32⟩
  | 112 => ⟨S4x8192x1024, .f32⟩
  | 113 => ⟨S4x8192x1024, .f32⟩
  | 114 => ⟨S_, .f32⟩
  | 115 => ⟨S4x8192, .f32⟩
  | 116 => ⟨S4x8192x1, .f32⟩
  | 117 => ⟨S_, .f32⟩
  | 118 => ⟨S4x8192x1, .f32⟩
  | 119 => ⟨S4x8192x1, .f32⟩
  | 120 => ⟨S_, .f32⟩
  | 121 => ⟨S4x8192x1, .f32⟩
  | 122 => ⟨S4x8192x1, .f32⟩
  | 123 => ⟨S4x8192x1, .f32⟩
  | 124 => ⟨S4x8192x1024, .f32⟩
  | 125 => ⟨S4x8192x1024, .f32⟩
  | 126 => ⟨S_, .f32⟩
  | 127 => ⟨S4x1x1024, .f32⟩
  | _ => ⟨S4x256x1024, .f32⟩

abbrev hbmTy0_1 (i : Nat) : BufTy := match i % 128 with
  | 0 => ⟨S4x1x1024, .f32⟩
  | 1 => ⟨S4x8192x1024, .f32⟩
  | 2 => ⟨S4x8192x1024, .f32⟩
  | 3 => ⟨S4x8192x1024, .f32⟩
  | 4 => ⟨S4x8192x1024, .f32⟩
  | 5 => ⟨S_, .f32⟩
  | 6 => ⟨S4x256, .f32⟩
  | 7 => ⟨S4x256x1, .f32⟩
  | 8 => ⟨S_, .f32⟩
  | 9 => ⟨S4x256x1, .f32⟩
  | 10 => ⟨S4x256x1, .f32⟩
  | 11 => ⟨S4x256x1024, .f32⟩
  | 12 => ⟨S4x256x1024, .f32⟩
  | 13 => ⟨S4x256x1024, .f32⟩
  | 14 => ⟨S_, .f32⟩
  | 15 => ⟨S4x256, .f32⟩
  | 16 => ⟨S4x256x1, .f32⟩
  | 17 => ⟨S_, .f32⟩
  | 18 => ⟨S4x256x1, .f32⟩
  | 19 => ⟨S4x256x1, .f32⟩
  | 20 => ⟨S_, .f32⟩
  | 21 => ⟨S4x256x1, .f32⟩
  | 22 => ⟨S4x256x1, .f32⟩
  | 23 => ⟨S4x256x1, .f32⟩
  | 24 => ⟨S4x256x1024, .f32⟩
  | 25 => ⟨S4x256x1024, .f32⟩
  | 26 => ⟨S_, .f32⟩
  | 27 => ⟨S1x1x1024, .f32⟩
  | 28 => ⟨S1x1x1024, .f32⟩
  | 29 => ⟨S4x256x1024, .f32⟩
  | 30 => ⟨S4x256x1024, .f32⟩
  | 31 => ⟨S4x256x1024, .f32⟩
  | 32 => ⟨S4x256x1024, .f32⟩
  | 33 => ⟨S1024x1024, .f32⟩
  | 34 => ⟨S32768x1024, .f32⟩
  | 35 => ⟨S33792x1024, .f32⟩
  | 36 => ⟨S1024x1024, .f32⟩
  | 37 => ⟨S32768x1024, .f32⟩
  | 38 => ⟨S33792x1024, .f32⟩
  | 39 => ⟨S33792x5536, .f32⟩
  | 40 => ⟨S1x5536, .f32⟩
  | 41 => ⟨S33792x5536, .f32⟩
  | 42 => ⟨S33792x5536, .f32⟩
  | 43 => ⟨S33792x256, .f32⟩
  | 44 => ⟨S33792x128, .f32⟩
  | 45 => ⟨S33792x32, .f32⟩
  | 46 => ⟨S33792x5120, .f32⟩
  | 47 => ⟨S32768x512, .f32⟩
  | 48 => ⟨S4x8192x4x128, .f32⟩
  | 49 => ⟨S4x4x8192x128, .f32⟩
  | 50 => ⟨S16x128x4x2048, .f32⟩
  | 51 => ⟨S16x4x128x2048, .f32⟩
  | 52 => ⟨S4x4x4x2048x128, .f32⟩
  | 53 => ⟨S33792x8, .f32⟩
  | 54 => ⟨S33792x8, .f32⟩
  | 55 => ⟨S33792x8, .f32⟩
  | 56 => ⟨S33792x8, .f32⟩
  | 57 => ⟨S33792x8, .f32⟩
  | 58 => ⟨S33792x8, .f32⟩
  | 59 => ⟨S33792x32, .f32⟩
  | 60 => ⟨S_, .f32⟩
  | 61 => ⟨S33792x64, .f32⟩
  | 62 => ⟨S33792x5632, .f32⟩
  | 63 => ⟨S33792x5632, .bf16⟩
  | _ => ⟨S4x256x1024, .f32⟩

abbrev hbmTy (i : Nat) : BufTy := match i / 128 with
  | 0 => hbmTy0_0 i
  | 1 => hbmTy0_1 i
  | _ => ⟨S4x256x1024, .f32⟩

abbrev bufTy : (tb : Table) → Fin (tcTables nBuf tb) → BufTy
  | .hbm, ⟨i, _⟩ => hbmTy i
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_0 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_5 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_6 : Ref sig .tc := ⟨.hbm, 70, rfl⟩
abbrev main_v51 : Ref sig .tc := ⟨.hbm, 71, rfl⟩
abbrev main_v52 : Ref sig .tc := ⟨.hbm, 72, rfl⟩
abbrev main_cst_7 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_8 : Ref sig .tc := ⟨.hbm, 79, rfl⟩
abbrev main_v58 : Ref sig .tc := ⟨.hbm, 80, rfl⟩
abbrev main_v59 : Ref sig .tc := ⟨.hbm, 81, rfl⟩
abbrev main_cst_9 : Ref sig .tc := ⟨.hbm, 82, rfl⟩
abbrev main_v60 : Ref sig .tc := ⟨.hbm, 83, rfl⟩
abbrev main_v61 : Ref sig .tc := ⟨.hbm, 84, rfl⟩
abbrev main_cst_10 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_11 : Ref sig .tc := ⟨.hbm, 105, rfl⟩
abbrev main_v81 : Ref sig .tc := ⟨.hbm, 106, rfl⟩
abbrev main_v82 : Ref sig .tc := ⟨.hbm, 107, rfl⟩
abbrev main_cst_12 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_13 : Ref sig .tc := ⟨.hbm, 114, rfl⟩
abbrev main_v88 : Ref sig .tc := ⟨.hbm, 115, rfl⟩
abbrev main_v89 : Ref sig .tc := ⟨.hbm, 116, rfl⟩
abbrev main_cst_14 : Ref sig .tc := ⟨.hbm, 117, rfl⟩
abbrev main_v90 : Ref sig .tc := ⟨.hbm, 118, rfl⟩
abbrev main_v91 : Ref sig .tc := ⟨.hbm, 119, rfl⟩
abbrev main_cst_15 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_16 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_17 : Ref sig .tc := ⟨.hbm, 133, rfl⟩
abbrev main_v103 : Ref sig .tc := ⟨.hbm, 134, rfl⟩
abbrev main_v104 : Ref sig .tc := ⟨.hbm, 135, rfl⟩
abbrev main_cst_18 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_cst_19 : Ref sig .tc := ⟨.hbm, 142, rfl⟩
abbrev main_v110 : Ref sig .tc := ⟨.hbm, 143, rfl⟩
abbrev main_v111 : Ref sig .tc := ⟨.hbm, 144, rfl⟩
abbrev main_cst_20 : Ref sig .tc := ⟨.hbm, 145, rfl⟩
abbrev main_v112 : Ref sig .tc := ⟨.hbm, 146, rfl⟩
abbrev main_v113 : Ref sig .tc := ⟨.hbm, 147, rfl⟩
abbrev main_cst_21 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_cst_22 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_cst_23 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩

abbrev nD : Nat := 1
abbrev τ : Topo := Topo.v7x

variable {F : FTy → Type} [FloatOps F]
-- ==== Proof.AttHost.lean ====
module

public import proofs.«01_k».proof.Proof.Gen.KernelIdeal.Value
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Att

open Idealize.ShloMosaic Idealize.ShloMosaic.TcCoe Idealize.SL.Sem Cert.KernelIdeal Cert.KernelIdeal.Gen

/-- The zero the heads' unused lanes are filled with. -/
def zpad : S_.Idx → EReal := sitofp (F := Ideal) .f32 (constantI S_ 32 0#32)

/-- The context heads, each in its own 128 lanes. -/
def padC (x : S4x256x8x96.Idx → EReal) : S1024x1024.Idx → EReal :=
  shapeCast S1024x1024 (pad S1024x8x128 ![0, 0, 0] ![0, 0, 32] ![0, 0, 0] (shapeCast S1024x8x96 x shapeCasts_S4x256x8x96_S1024x8x96) zpad pads_S1024x8x96_S1024x8x128_000_000_0320 h_S_) shapeCasts_S1024x8x128_S1024x1024

/-- The latent heads, each in its own 128 lanes. -/
def padL (x : S4x8192x8x96.Idx → EReal) : S32768x1024.Idx → EReal :=
  shapeCast S32768x1024 (pad S32768x8x128 ![0, 0, 0] ![0, 0, 32] ![0, 0, 0] (shapeCast S32768x8x96 x shapeCasts_S4x8192x8x96_S32768x8x96) zpad pads_S32768x8x96_S32768x8x128_000_000_0320 h_S_) shapeCasts_S32768x8x128_S32768x1024

/-- Both sets of rows. -/
def rows (x : S1024x1024.Idx → EReal) (y : S32768x1024.Idx → EReal) : S33792x1024.Idx → EReal :=
  concatenate S33792x1024 0 [⟨S1024x1024, x⟩, ⟨S32768x1024, y⟩] concatenates_S1024x1024_S32768x1024_S33792x1024_d0

/-- The queries' factor, the softmax scale over the logarithm of two, at every entry. -/
def scaled (x : S33792x1024.Idx → EReal) : S33792x1024.Idx → EReal :=
  Host.divf (F := Ideal) (φ := .f32) (mulf (F := Ideal) (φ := .f32) x (broadcastInDim S33792x1024 ![] bcast_S_S33792x1024 (constant (F := Ideal) S_ .f32 0x3DD105EC#32)))
    (broadcastInDim S33792x1024 ![] bcast_S_S33792x1024 (Host.log (F := Ideal) (constant (F := Ideal) S_ .f32 0x40000000#32)))

/-- A constant array. -/
def k1c (w : BitVec 32) : S1024x4x1.Idx → EReal := broadcastInDim S1024x4x1 ![] bcast_S_S1024x4x1 (constant (F := Ideal) S_ .f32 w)
def k63c (w : BitVec 32) : S1024x4x63.Idx → EReal := broadcastInDim S1024x4x63 ![] bcast_S_S1024x4x63 (constant (F := Ideal) S_ .f32 w)
def k1l (w : BitVec 32) : S32768x4x1.Idx → EReal := broadcastInDim S32768x4x1 ![] bcast_S_S32768x4x1 (constant (F := Ideal) S_ .f32 w)
def k63l (w : BitVec 32) : S32768x4x63.Idx → EReal := broadcastInDim S32768x4x63 ![] bcast_S_S32768x4x63 (constant (F := Ideal) S_ .f32 w)

/-- The context values, with the ones. -/
def valC (x : S4x256x8x64.Idx → EReal) : S1024x1024.Idx → EReal :=
  shapeCast S1024x1024 (concatenate S1024x4x256 2
    [⟨S1024x4x64, shapeCast S1024x4x64 (extractStridedSlice S1024x4x1x64 ![0, 0, 0, 0] (shapeCast S1024x4x2x64 x shapeCasts_S4x256x8x64_S1024x4x2x64) slices_S1024x4x2x64_S1024x4x1x64_0_0_0_0) shapeCasts_S1024x4x1x64_S1024x4x64⟩,
      ⟨S1024x4x1, k1c 0x3F800000#32⟩, ⟨S1024x4x63, k63c 0#32⟩, ⟨S1024x4x1, k1c 0x3F800000#32⟩, ⟨S1024x4x63, k63c 0#32⟩,
      ⟨S1024x4x64, shapeCast S1024x4x64 (extractStridedSlice S1024x4x1x64 ![0, 0, 1, 0] (shapeCast S1024x4x2x64 x shapeCasts_S4x256x8x64_S1024x4x2x64) slices_S1024x4x2x64_S1024x4x1x64_0_0_1_0) shapeCasts_S1024x4x1x64_S1024x4x64⟩]
    concatenates_S1024x4x64_S1024x4x1_S1024x4x63_S1024x4x1_S1024x4x63_S1024x4x64_S1024x4x256_d2) shapeCasts_S1024x4x256_S1024x1024

/-- The latent values, with the ones. -/
def valL (x : S4x8192x8x64.Idx → EReal) : S32768x1024.Idx → EReal :=
  shapeCast S32768x1024 (concatenate S32768x4x256 2
    [⟨S32768x4x64, shapeCast S32768x4x64 (extractStridedSlice S32768x4x1x64 ![0, 0, 0, 0] (shapeCast S32768x4x2x64 x shapeCasts_S4x8192x8x64_S32768x4x2x64) slices_S32768x4x2x64_S32768x4x1x64_0_0_0_0) shapeCasts_S32768x4x1x64_S32768x4x64⟩,
      ⟨S32768x4x1, k1l 0x3F800000#32⟩, ⟨S32768x4x63, k63l 0#32⟩, ⟨S32768x4x1, k1l 0x3F800000#32⟩, ⟨S32768x4x63, k63l 0#32⟩,
      ⟨S32768x4x64, shapeCast S32768x4x64 (extractStridedSlice S32768x4x1x64 ![0, 0, 1, 0] (shapeCast S32768x4x2x64 x shapeCasts_S4x8192x8x64_S32768x4x2x64) slices_S32768x4x2x64_S32768x4x1x64_0_0_1_0) shapeCasts_S32768x4x1x64_S32768x4x64⟩]
    concatenates_S32768x4x64_S32768x4x1_S32768x4x63_S32768x4x1_S32768x4x63_S32768x4x64_S32768x4x256_d2) shapeCasts_S32768x4x256_S32768x1024

variable (m : (ℓ : Loc nD τ sig) → Buf (Elt Ideal) ℓ) (c : Dev nD)

theorem Vq : V m c main_v12 = scaled (rows (padC (m ((c.tc : Thread nD τ).loc main_arg0))) (padL (m ((c.tc : Thread nD τ).loc main_arg1)))) := by
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results
  rfl

theorem Vk : V m c main_v20 = rows (padC (m ((c.tc : Thread nD τ).loc main_arg2))) (padL (m ((c.tc : Thread nD τ).loc main_arg3))) := by
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results
  rfl

theorem Vv : V m c main_v40 = rows (valC (m ((c.tc : Thread nD τ).loc main_arg4))) (valL (m ((c.tc : Thread nD τ).loc main_arg5))) := by
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results
  try simp only [Matrix.cons_val]
  after_results_loop
  rfl
end Cert.Att
end
-- ==== Proof.AttScores.lean ====
module

public import proofs.«01_k».proof.Proof.Gen.KernelIdeal.Value
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Att

open Idealize.ShloMosaic Idealize.ShloMosaic.TcCoe Idealize.SL.Sem Cert.KernelIdeal Cert.KernelIdeal.Gen

/-- A concatenation of a list that is `N` copies of one piece, read at an index. -/
theorem cat_of {α : Type} {t s₁ : Shape} (a : Fin t.rank) (N : ℕ) (x : s₁.Idx → α) (xs : List ((s : Shape) × (s.Idx → α)))
    (hx : xs = List.replicate N ⟨s₁, x⟩) (h : Shape.Concatenates (xs.map (·.1)) t a) (hr : s₁.rank = t.rank) (j : t.Idx) (i : s₁.Idx)
    (hia : (i (a.cast hr.symm)).val = (j a).val % s₁.size (a.cast hr.symm))
    (hi : ∀ b : Fin s₁.rank, b.cast hr ≠ a → (i b).val = (j (b.cast hr)).val) :
    concatenate t a xs h j = x i := by
  subst hx
  exact concatenate_replicate_apply a N x h hr j i hia hi

/-- Sixteen copies of one block of 128 lanes side by side, read at a lane: the block at the lane modulo 128. -/
theorem cat16_at (x : Vec Ideal S1024x128 .f32) (r : Fin 1024) (j : Fin 2048) :
    concatenate S1024x2048 1 [⟨S1024x128, x⟩, ⟨S1024x128, x⟩, ⟨S1024x128, x⟩, ⟨S1024x128, x⟩, ⟨S1024x128, x⟩, ⟨S1024x128, x⟩, ⟨S1024x128, x⟩, ⟨S1024x128, x⟩, ⟨S1024x128, x⟩, ⟨S1024x128, x⟩, ⟨S1024x128, x⟩, ⟨S1024x128, x⟩, ⟨S1024x128, x⟩, ⟨S1024x128, x⟩, ⟨S1024x128, x⟩, ⟨S1024x128, x⟩] concatenates_S1024x128_S1024x128_S1024x128_S1024x128_S1024x128_S1024x128_S1024x128_S1024x128_S1024x128_S1024x128_S1024x128_S1024x128_S1024x128_S1024x128_S1024x128_S1024x128_S1024x2048_d1 (ix2 r j)
      = x (ix2 r ⟨j % 128, Nat.mod_lt _ (by decide)⟩) :=
  cat_of (t := S1024x2048) (s₁ := S1024x128) 1 16 x _ rfl _ rfl (ix2 (n0 := 1024) (n1 := 2048) r j) (ix2 (n0 := 1024) (n1 := 128) r ⟨j % 128, Nat.mod_lt _ (by decide)⟩) rfl
    (fun b hb => by fin_cases b <;> first | rfl | exact absurd rfl hb)

theorem cat2_at (x : Vec Ideal S1024x128 .f32) (r : Fin 1024) (j : Fin 256) :
    concatenate S1024x256 1 [⟨S1024x128, x⟩, ⟨S1024x128, x⟩] concatenates_S1024x128_S1024x128_S1024x256_d1 (ix2 r j)
      = x (ix2 r ⟨j % 128, Nat.mod_lt _ (by decide)⟩) :=
  cat_of (t := S1024x256) (s₁ := S1024x128) 1 2 x _ rfl _ rfl (ix2 (n0 := 1024) (n1 := 256) r j) (ix2 (n0 := 1024) (n1 := 128) r ⟨j % 128, Nat.mod_lt _ (by decide)⟩) rfl
    (fun b hb => by fin_cases b <;> first | rfl | exact absurd rfl hb)

/-- The scores of one query row against the keys of a block. -/
def sc {n : ℕ} (q : Vec Ideal S1024x128 .bf16) (k : (⟨2, ![n, 128]⟩ : Shape).Idx → EReal) (r : Fin 1024) (j : Fin n) : EReal :=
  ∑ a : Fin 128, q (ix2 r a) * k (ix2 j a)

def mx {n : ℕ} (q : Vec Ideal S1024x128 .bf16) (k : (⟨2, ![n, 128]⟩ : Shape).Idx → EReal) (mp : Vec Ideal S1x1024x128 .f32) (r : Fin 1024) (l : Fin 128) : EReal :=
  max (mp (ix3 0 r l)) (Finset.fold max (Ideal.ofBits FTy.f32 4286578688#32) (fun j => sc q k r j) Finset.univ)

theorem rowMax_at {n : ℕ} (x : FVec Ideal ⟨2, ![1024, n]⟩ .f32) (h) (hφ) (hacc) (r : Fin 1024) :
    multiReduction .maximumf [1] (⟨1, ![1024]⟩ : Shape) x 0xFF800000#32 h hφ hacc (ix1 r)
      = Finset.fold max (Ideal.ofBits FTy.f32 4286578688#32) (fun j => x (ix2 r j)) Finset.univ := by
  rw [multiReduction_maximumf_eq_fold, Shape.Reduces.fold_fiber_r2_a1]
  rfl
theorem sL_at (q k) (r : Fin 1024) (j : Fin 2048) : k0_pay59 (F := Ideal) q k (ix2 r j) = sc q k r j := by
  pointwise [k0_pay59]; rfl
theorem sC_at (q k) (r : Fin 1024) (j : Fin 256) : k0_pay6 (F := Ideal) q k (ix2 r j) = sc q k r j := by
  pointwise [k0_pay6]; rfl
theorem mL_eq (q k mp) : k0_pay61 (F := Ideal) q k mp = maximumf (k0_pay60 mp) (broadcastTo S1024x128 (shapeCast S1024x1 (multiReduction .maximumf [1] S1024 (k0_pay59 q k) 0xFF800000#32 reduces_S1024x2048_S1024 (.inl rfl) rfl) shapeCasts_S1024_S1024x1) broadcasts_S1024x1_S1024x128) := rfl
theorem col_at (x : FVec Ideal S1024 .f32) (y : FVec Ideal S1x1024x128 .f32) (r : Fin 1024) (l : Fin 128) :
    maximumf (k0_pay60 y) (broadcastTo S1024x128 (shapeCast S1024x1 x shapeCasts_S1024_S1024x1) broadcasts_S1024x1_S1024x128) (ix2 r l) = max (y (ix3 0 r l)) (x (ix1 r)) := by
  pointwise [k0_pay60]
theorem mL_at (q k mp) (r : Fin 1024) (l : Fin 128) : k0_pay61 (F := Ideal) q k mp (ix2 r l) = mx q k mp r l := by
  rw [mL_eq, mx]
  refine (col_at _ _ r l).trans (congrArg (max _) ((rowMax_at (n := 2048) _ _ _ _ r).trans ?_))
  simp only [sL_at]
theorem mC_eq (q k mp) : k0_pay8 (F := Ideal) q k mp = maximumf (k0_pay60 mp) (broadcastTo S1024x128 (shapeCast S1024x1 (multiReduction .maximumf [1] S1024 (k0_pay6 q k) 0xFF800000#32 reduces_S1024x256_S1024 (.inl rfl) rfl) shapeCasts_S1024_S1024x1) broadcasts_S1024x1_S1024x128) := rfl
theorem mC_at (q k mp) (r : Fin 1024) (l : Fin 128) : k0_pay8 (F := Ideal) q k mp (ix2 r l) = mx q k mp r l := by
  rw [mC_eq, mx]
  refine (col_at _ _ r l).trans (congrArg (max _) ((rowMax_at (n := 256) _ _ _ _ r).trans ?_))
  simp only [sC_at]
def eL (q : Vec Ideal S1024x128 .bf16) (k : Vec Ideal S2048x128 .bf16) (mp : Vec Ideal S1x1024x128 .f32) : FVec Ideal S1024x2048 .bf16 :=
  exp2 (truncf .bf16 (subf (k0_pay59 q k) (concatenate S1024x2048 1 [⟨S1024x128, k0_pay61 q k mp⟩, ⟨S1024x128, k0_pay61 q k mp⟩, ⟨S1024x128, k0_pay61 q k mp⟩, ⟨S1024x128, k0_pay61 q k mp⟩, ⟨S1024x128, k0_pay61 q k mp⟩, ⟨S1024x128, k0_pay61 q k mp⟩, ⟨S1024x128, k0_pay61 q k mp⟩, ⟨S1024x128, k0_pay61 q k mp⟩, ⟨S1024x128, k0_pay61 q k mp⟩, ⟨S1024x128, k0_pay61 q k mp⟩, ⟨S1024x128, k0_pay61 q k mp⟩, ⟨S1024x128, k0_pay61 q k mp⟩, ⟨S1024x128, k0_pay61 q k mp⟩, ⟨S1024x128, k0_pay61 q k mp⟩, ⟨S1024x128, k0_pay61 q k mp⟩, ⟨S1024x128, k0_pay61 q k mp⟩] concatenates_S1024x128_S1024x128_S1024x128_S1024x128_S1024x128_S1024x128_S1024x128_S1024x128_S1024x128_S1024x128_S1024x128_S1024x128_S1024x128_S1024x128_S1024x128_S1024x128_S1024x2048_d1)) bitsLt_bf16_f32)
def eC (q : Vec Ideal S1024x128 .bf16) (k : Vec Ideal S256x128 .bf16) (mp : Vec Ideal S1x1024x128 .f32) : FVec Ideal S1024x256 .bf16 :=
  exp2 (truncf .bf16 (subf (k0_pay6 q k) (concatenate S1024x256 1 [⟨S1024x128, k0_pay8 q k mp⟩, ⟨S1024x128, k0_pay8 q k mp⟩] concatenates_S1024x128_S1024x128_S1024x256_d1)) bitsLt_bf16_f32)

theorem eL_at (q k mp) (r : Fin 1024) (j : Fin 2048) :
    eL q k mp (ix2 r j) = Ideal.exp2 (sc q k r j - mx q k mp r ⟨j % 128, Nat.mod_lt _ (by decide)⟩) := by
  have h : eL q k mp (ix2 r j) = Ideal.exp2 (k0_pay59 q k (ix2 r j) - _) := rfl
  rw [h, cat16_at, sL_at, mL_at]
theorem eC_at (q k mp) (r : Fin 1024) (j : Fin 256) :
    eC q k mp (ix2 r j) = Ideal.exp2 (sc q k r j - mx q k mp r ⟨j % 128, Nat.mod_lt _ (by decide)⟩) := by
  have h : eC q k mp (ix2 r j) = Ideal.exp2 (k0_pay6 q k (ix2 r j) - _) := rfl
  rw [h, cat2_at, sC_at, mC_at]

end Cert.Att
end
-- ==== Proof.AttStep.lean ====
module

public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.AttScores

@[expose] public section

set_option maxRecDepth 16384

noncomputable section

namespace Cert.Att

open Idealize.ShloMosaic Idealize.ShloMosaic.TcCoe Idealize.SL.Sem Cert.KernelIdeal Cert.KernelIdeal.Gen

theorem hLA_eq (q k mp) (v : Vec Ideal S2048x128 .bf16) (ap) : k0_pay62 (F := Ideal) q k mp v ap = shapeCast S1x1024x128 (addf (mulf (shapeCast S1024x128 ap shapeCasts_S1x1024x128_S1024x128) (exp2 (subf (k0_pay60 mp) (k0_pay61 q k mp)))) (matmul dot_S1024x2048_S2048x128_S1024x128_1_0_0_1_n_n none (eL q k mp) (φ₂ := .bf16) (shapeCast S2048x128 v shapeCasts_S2048x128_S2048x128) (constant S1024x128 .f32 0x00000000#32))) shapeCasts_S1024x128_S1x1024x128 := rfl
theorem hCA_eq (q k mp) (v : Vec Ideal S256x128 .bf16) (ap) : k0_pay10 (k0_pay9 (F := Ideal) q k mp v ap) = shapeCast S1x1024x128 (addf (mulf (shapeCast S1024x128 ap shapeCasts_S1x1024x128_S1024x128) (exp2 (subf (k0_pay7 mp) (k0_pay8 q k mp)))) (matmul dot_S1024x256_S256x128_S1024x128_1_0_0_1_n_n none (eC q k mp) (φ₂ := .bf16) (shapeCast S256x128 v shapeCasts_S256x128_S256x128) (constant S1024x128 .f32 0x00000000#32))) shapeCasts_S1024x128_S1x1024x128 := rfl

def ac {n : ℕ} (q : Vec Ideal S1024x128 .bf16) (k v : (⟨2, ![n, 128]⟩ : Shape).Idx → EReal) (mp ap : Vec Ideal S1x1024x128 .f32) (r : Fin 1024) (l : Fin 128) : EReal :=
  ap (ix3 0 r l) * Ideal.exp2 (mp (ix3 0 r l) - mx q k mp r l)
    + ∑ j : Fin n, Ideal.exp2 (sc q k r j - mx q k mp r ⟨j % 128, Nat.mod_lt _ (by decide)⟩) * v (ix2 j l)

theorem aL_at (q k mp v ap) (z : Fin 1) (r : Fin 1024) (l : Fin 128) : k0_pay62 (F := Ideal) q k mp v ap (ix3 z r l) = ac q k v mp ap r l := by
  rw [hLA_eq]
  pointwise [k0_pay60]
  simp only [eL_at, mL_at]
  rfl
theorem aC_at (q k mp v ap) (z : Fin 1) (r : Fin 1024) (l : Fin 128) : k0_pay10 (k0_pay9 (F := Ideal) q k mp v ap) (ix3 z r l) = ac q k v mp ap r l := by
  rw [hCA_eq]
  pointwise [k0_pay7]
  simp only [eC_at, mC_at]
  rfl
theorem mL_at' (q k mp) (z : Fin 1) (r : Fin 1024) (l : Fin 128) : k0_pay63 (k0_pay61 (F := Ideal) q k mp) (ix3 z r l) = mx q k mp r l := by
  pointwise [k0_pay63]
  simp only [mL_at]
theorem mC_at' (q k mp) (z : Fin 1) (r : Fin 1024) (l : Fin 128) : k0_pay11 (k0_pay8 (F := Ideal) q k mp) (ix3 z r l) = mx q k mp r l := by
  pointwise [k0_pay11]
  simp only [mC_at]
end Cert.Att
end
-- ==== Proof.AttPieces.lean ====
module

public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.AttStep

@[expose] public section

set_option maxRecDepth 16384

noncomputable section

namespace Cert.Att

open Idealize.ShloMosaic Idealize.ShloMosaic.TcCoe Idealize.SL.Sem Cert.KernelIdeal Cert.KernelIdeal.Gen

/-- One head's 128 lanes of a packed row. -/
def lane (o : Fin 8) {n : ℕ} (x : (⟨2, ![n, 1024]⟩ : Shape).Idx → EReal) : (⟨2, ![n, 128]⟩ : Shape).Idx → EReal :=
  fun i => x (ix2 (i 0) ⟨128 * o.val + (i 1).val, by have h : (i 1).val < 128 := (i 1).isLt; have := o.isLt; show _ < 1024; omega⟩)

/-- One head's slab of a carried scratch. -/
def slab (o : Fin 8) (x : S8x1024x128.Idx → EReal) : S1x1024x128.Idx → EReal := fun i => x (ix3 o (i 1) (i 2))

def GM {n : ℕ} (q : S1024x1024.Idx → EReal) (k : (⟨2, ![n, 1024]⟩ : Shape).Idx → EReal) (mp : S8x1024x128.Idx → EReal) : S8x1024x128.Idx → EReal :=
  fun i => mx (lane (i 0) q) (lane (i 0) k) (slab (i 0) mp) (i 1) (i 2)

def GA {n : ℕ} (q : S1024x1024.Idx → EReal) (k v : (⟨2, ![n, 1024]⟩ : Shape).Idx → EReal) (mp ap : S8x1024x128.Idx → EReal) : S8x1024x128.Idx → EReal :=
  fun i => ac (lane (i 0) q) (lane (i 0) k) (lane (i 0) v) (slab (i 0) mp) (slab (i 0) ap) (i 1) (i 2)

theorem inb2 {n : ℕ} (o : Fin 8) : ∀ a, (![0, 128 * o.val] : Fin 2 → ℕ) a + (![n, 128] : Fin 2 → ℕ) a ≤ (⟨2, ![n, 1024]⟩ : Shape).size a := by
  intro a; have := o.isLt; fin_cases a <;> simp <;> omega

theorem lane_ld (o : Fin 8) {n : ℕ} (x : Vec Ideal ⟨2, ![n, 1024]⟩ .bf16) (h) :
    View.ld x (Rect.unit (s := ⟨2, ![n, 1024]⟩) ![0, 128 * o.val] ![n, 128] h) = lane o x := by
  funext i
  exact congrArg x (by funext a; apply Fin.ext; fin_cases a <;> simp [LoadRect.idx, lane])

theorem slab_ld (o : Fin 8) (x : Vec Ideal S8x1024x128 .f32) (h) :
    View.ld x (Rect.unit (s := S8x1024x128) ![o.val, 0, 0] ![1, 1024, 128] h) = slab o x := by
  funext i
  exact congrArg x (by funext a; apply Fin.ext; fin_cases a <;> simp [LoadRect.idx, slab])

/-- The place of a slab's index in the whole scratch. -/
theorem slab_emb (o : Fin 8) (h) (x : S1x1024x128.Idx) :
    (Rect.unit (s := S8x1024x128) ![o.val, 0, 0] ![1, 1024, 128] h).emb x = ix3 o (x 1) (x 2) := by
  funext a; apply Fin.ext
  show ((Rect.unit (s := S8x1024x128) ![o.val, 0, 0] ![1, 1024, 128] h).idx x a).val = _
  have h0 : (x 0).val = 0 := by have : (x 0).val < 1 := (x 0).isLt; omega
  fin_cases a <;> simp [LoadRect.idx, h0]

theorem eq_ix3 (x : S1x1024x128.Idx) : x = ix3 (x 0) (x 1) (x 2) := by
  funext a; fin_cases a <;> rfl

theorem inb8 (o : Fin 8) : ∀ a, (![o.val, 0, 0] : Fin 3 → ℕ) a + (![1, 1024, 128] : Fin 3 → ℕ) a ≤ S8x1024x128.size a := by
  intro a; have := o.isLt; fin_cases a <;> simp <;> omega

/-- One head's lanes of a block, as the kernel loads them. -/
def ldl (o : Fin 8) {n : ℕ} (x : Vec Ideal ⟨2, ![n, 1024]⟩ .bf16) : Vec Ideal ⟨2, ![n, 128]⟩ .bf16 :=
  View.ld x (Rect.unit (s := ⟨2, ![n, 1024]⟩) ![0, 128 * o.val] ![n, 128] (inb2 o))

/-- One head's slab of a scratch, as the kernel loads it. -/
def lds (o : Fin 8) (x : Vec Ideal S8x1024x128 .f32) : Vec Ideal S1x1024x128 .f32 :=
  View.ld x (Rect.unit (s := S8x1024x128) ![o.val, 0, 0] ![1, 1024, 128] (inb8 o))

theorem ldl_eq (o : Fin 8) {n : ℕ} (x : Vec Ideal ⟨2, ![n, 1024]⟩ .bf16) : ldl o x = lane o x := lane_ld o x _
theorem lds_eq (o : Fin 8) (x : Vec Ideal S8x1024x128 .f32) : lds o x = slab o x := slab_ld o x _

/-- Eight stores, one per head, over any earlier stores, leave the function they are blocks of. -/
theorem eight (G : S8x1024x128.Idx → EReal) (P : Fin 8 → S1x1024x128.Idx → EReal) (hP : ∀ o x, P o x = G (ix3 o (x 1) (x 2)))
    (L' : List (View.Piece (Elt Ideal) S8x1024x128 .f32)) (i0 i1 i2 i3 i4 i5 i6 i7) :
    View.canon (Val := Elt Ideal) (s := S8x1024x128) (e := .f32)
      (⟨Rect.unit ![7, 0, 0] ![1, 1024, 128] i7, P 7⟩ :: ⟨Rect.unit ![6, 0, 0] ![1, 1024, 128] i6, P 6⟩
        :: ⟨Rect.unit ![5, 0, 0] ![1, 1024, 128] i5, P 5⟩ :: ⟨Rect.unit ![4, 0, 0] ![1, 1024, 128] i4, P 4⟩
        :: ⟨Rect.unit ![3, 0, 0] ![1, 1024, 128] i3, P 3⟩ :: ⟨Rect.unit ![2, 0, 0] ![1, 1024, 128] i2, P 2⟩
        :: ⟨Rect.unit ![1, 0, 0] ![1, 1024, 128] i1, P 1⟩ :: ⟨Rect.unit ![0, 0, 0] ![1, 1024, 128] i0, P 0⟩ :: L') = G := by
  funext y
  have hp : ∀ (o : Fin 8) (h) (x : S1x1024x128.Idx), P o x = G ((Rect.unit (s := S8x1024x128) ![o.val, 0, 0] ![1, 1024, 128] h).emb x) :=
    fun o h x => by rw [slab_emb]; exact hP o x
  have hm : ∀ o : Fin 8, y 0 = o → y ∈ (Rect.unit (s := S8x1024x128) ![o.val, 0, 0] ![1, 1024, 128] (inb8 o)).set := by
    intro o ho
    rw [Rect.mem_set_unit]
    have h1 : (y 1).val < 1024 := (y 1).isLt
    have h2 : (y 2).val < 128 := (y 2).isLt
    have h0 : (y 0).val = o.val := congrArg Fin.val ho
    intro a; fin_cases a <;> simp <;> omega
  obtain ⟨o, ho⟩ : ∃ o : Fin 8, y 0 = o := ⟨_, rfl⟩
  have hy := hm o ho
  refine View.canon_append_of_piecesOf (Val := Elt Ideal) (s := S8x1024x128) (e := .f32) G L'
    [⟨Rect.unit ![7, 0, 0] ![1, 1024, 128] i7, P 7⟩, ⟨Rect.unit ![6, 0, 0] ![1, 1024, 128] i6, P 6⟩,
      ⟨Rect.unit ![5, 0, 0] ![1, 1024, 128] i5, P 5⟩, ⟨Rect.unit ![4, 0, 0] ![1, 1024, 128] i4, P 4⟩,
      ⟨Rect.unit ![3, 0, 0] ![1, 1024, 128] i3, P 3⟩, ⟨Rect.unit ![2, 0, 0] ![1, 1024, 128] i2, P 2⟩,
      ⟨Rect.unit ![1, 0, 0] ![1, 1024, 128] i1, P 1⟩, ⟨Rect.unit ![0, 0, 0] ![1, 1024, 128] i0, P 0⟩]
    ⟨hp 7 i7, hp 6 i6, hp 5 i5, hp 4 i4, hp 3 i3, hp 2 i2, hp 1 i1, hp 0 i0, trivial⟩ y
    ?_
  have hl : ∀ (p : View.Piece (Elt Ideal) S8x1024x128 .f32) (A B : List (View.Piece (Elt Ideal) S8x1024x128 .f32)), y ∈ p.1.set → ∃ q ∈ A ++ p :: B, y ∈ q.1.set :=
    fun p A B h => ⟨p, List.mem_append_right A (.head B), h⟩
  fin_cases o
  · exact hl ⟨Rect.unit ![0, 0, 0] ![1, 1024, 128] i0, P 0⟩ [_, _, _, _, _, _, _] [] hy
  · exact hl ⟨Rect.unit ![1, 0, 0] ![1, 1024, 128] i1, P 1⟩ [_, _, _, _, _, _] [_] hy
  · exact hl ⟨Rect.unit ![2, 0, 0] ![1, 1024, 128] i2, P 2⟩ [_, _, _, _, _] [_, _] hy
  · exact hl ⟨Rect.unit ![3, 0, 0] ![1, 1024, 128] i3, P 3⟩ [_, _, _, _] [_, _, _] hy
  · exact hl ⟨Rect.unit ![4, 0, 0] ![1, 1024, 128] i4, P 4⟩ [_, _, _] [_, _, _, _] hy
  · exact hl ⟨Rect.unit ![5, 0, 0] ![1, 1024, 128] i5, P 5⟩ [_, _] [_, _, _, _, _] hy
  · exact hl ⟨Rect.unit ![6, 0, 0] ![1, 1024, 128] i6, P 6⟩ [_] [_, _, _, _, _, _] hy
  · exact hl ⟨Rect.unit ![7, 0, 0] ![1, 1024, 128] i7, P 7⟩ [] [_, _, _, _, _, _, _] hy

theorem pieceML (o : Fin 8) (q k) (mp : Vec Ideal S8x1024x128 .f32) (x : S1x1024x128.Idx) :
    k0_pay63 (k0_pay61 (F := Ideal) (lane o q) (lane o k) (slab o mp)) x = GM (n := 2048) q k mp (ix3 o (x 1) (x 2)) := by
  rw [eq_ix3 x]; exact mL_at' _ _ _ _ _ _
theorem pieceMC (o : Fin 8) (q k) (mp : Vec Ideal S8x1024x128 .f32) (x : S1x1024x128.Idx) :
    k0_pay11 (k0_pay8 (F := Ideal) (lane o q) (lane o k) (slab o mp)) x = GM (n := 256) q k mp (ix3 o (x 1) (x 2)) := by
  rw [eq_ix3 x]; exact mC_at' _ _ _ _ _ _
theorem pieceAL (o : Fin 8) (q k v) (mp ap : Vec Ideal S8x1024x128 .f32) (x : S1x1024x128.Idx) :
    k0_pay62 (F := Ideal) (lane o q) (lane o k) (slab o mp) (lane o v) (slab o ap) x = GA (n := 2048) q k v mp ap (ix3 o (x 1) (x 2)) := by
  rw [eq_ix3 x]; exact aL_at _ _ _ _ _ _ _ _
theorem pieceAC (o : Fin 8) (q k v) (mp ap : Vec Ideal S8x1024x128 .f32) (x : S1x1024x128.Idx) :
    k0_pay10 (k0_pay9 (F := Ideal) (lane o q) (lane o k) (slab o mp) (lane o v) (slab o ap)) x = GA (n := 256) q k v mp ap (ix3 o (x 1) (x 2)) := by
  rw [eq_ix3 x]; exact aC_at _ _ _ _ _ _ _ _

variable (m : (ℓ : Loc nD τ sig) → Buf (Elt Ideal) ℓ) (c : Dev nD)

set_option pp.proofs false
theorem stepB_m (t : Fin grid0.N) (h0 : ¬ t.val % 4 = 0) (h1 : ¬ t.val % 4 = 3) :
  (outsAt0 m c t.val t.isLt).2.2 = GM (n := 2048) (iblk m c 0 t) (iblk m c 3 t) (outsAt0 m c (t.val - 1) (Nat.lt_of_le_of_lt (Nat.sub_le _ _) t.isLt)).2.2 := by
  rw [outsAt0_B m c t h0 h1]
  frame_out
  simp only [read_unread_whole]
  generalize (outsAt0 m c (t.val - 1) _).2.2 = mp
  exact eight _ (fun o => k0_pay63 (k0_pay61 (ldl o (iblk m c 0 t)) (ldl o (iblk m c 3 t)) (lds o mp)))
    (fun o x => by rw [ldl_eq, ldl_eq, lds_eq]; exact pieceML o _ _ _ x) [] _ _ _ _ _ _ _ _

theorem stepB_a (t : Fin grid0.N) (h0 : ¬ t.val % 4 = 0) (h1 : ¬ t.val % 4 = 3) :
  (outsAt0 m c t.val t.isLt).2.1 = GA (n := 2048) (iblk m c 0 t) (iblk m c 3 t) (iblk m c 4 t) (outsAt0 m c (t.val - 1) (Nat.lt_of_le_of_lt (Nat.sub_le _ _) t.isLt)).2.2 (outsAt0 m c (t.val - 1) (Nat.lt_of_le_of_lt (Nat.sub_le _ _) t.isLt)).2.1 := by
  rw [outsAt0_B m c t h0 h1]
  frame_out
  simp only [read_unread_whole]
  generalize (outsAt0 m c (t.val - 1) _).2.2 = mp
  generalize (outsAt0 m c (t.val - 1) _).2.1 = ap
  exact eight _ (fun o => k0_pay62 (ldl o (iblk m c 0 t)) (ldl o (iblk m c 3 t)) (lds o mp) (ldl o (iblk m c 4 t)) (lds o ap))
    (fun o x => by rw [ldl_eq, ldl_eq, ldl_eq, lds_eq, lds_eq]; exact pieceAL o _ _ _ _ _ x) [] _ _ _ _ _ _ _ _

theorem stepA_m (t : Fin grid0.N) (h0 : t.val % 4 = 0) (h1 : ¬ t.val % 4 = 3) :
  (outsAt0 m c t.val t.isLt).2.2 = GM (n := 2048) (iblk m c 0 t) (iblk m c 3 t) (GM (n := 256) (iblk m c 0 t) (iblk m c 1 t) (k0_pay4 (F := Ideal))) := by
  rw [outsAt0_A m c t h0 h1]
  frame_open
  simp (disch := decide) only [↓ View.readCov_skip, ↓ View.readCov_cons_toLoadRect, ↓ View.readCov_fill]
  frame_out
  have e : ∀ o, k0_pay11 (k0_pay8 (F := Ideal) (ldl o (iblk m c 0 t)) (ldl o (iblk m c 1 t)) (lds o (k0_pay4 (F := Ideal)))) = slab o (GM (n := 256) (iblk m c 0 t) (iblk m c 1 t) (k0_pay4 (F := Ideal))) := by
    intro o; funext x; rw [ldl_eq, ldl_eq, lds_eq]; exact pieceMC o _ _ _ x
  exact eight _ (fun o => k0_pay63 (k0_pay61 (ldl o (iblk m c 0 t)) (ldl o (iblk m c 3 t)) (k0_pay11 (k0_pay8 (F := Ideal) (ldl o (iblk m c 0 t)) (ldl o (iblk m c 1 t)) (lds o (k0_pay4 (F := Ideal)))))))
    (fun o x => by rw [e, ldl_eq, ldl_eq]; exact pieceML o _ _ _ x) _ _ _ _ _ _ _ _ _

theorem stepA_a (t : Fin grid0.N) (h0 : t.val % 4 = 0) (h1 : ¬ t.val % 4 = 3) :
  (outsAt0 m c t.val t.isLt).2.1 = GA (n := 2048) (iblk m c 0 t) (iblk m c 3 t) (iblk m c 4 t) (GM (n := 256) (iblk m c 0 t) (iblk m c 1 t) (k0_pay4 (F := Ideal)))
      (GA (n := 256) (iblk m c 0 t) (iblk m c 1 t) (iblk m c 2 t) (k0_pay4 (F := Ideal)) (k0_pay5 (F := Ideal))) := by
  rw [outsAt0_A m c t h0 h1]
  frame_open
  simp (disch := decide) only [↓ View.readCov_skip, ↓ View.readCov_cons_toLoadRect, ↓ View.readCov_fill]
  frame_out
  have e : ∀ o, k0_pay11 (k0_pay8 (F := Ideal) (ldl o (iblk m c 0 t)) (ldl o (iblk m c 1 t)) (lds o (k0_pay4 (F := Ideal)))) = slab o (GM (n := 256) (iblk m c 0 t) (iblk m c 1 t) (k0_pay4 (F := Ideal))) := by
    intro o; funext x; rw [ldl_eq, ldl_eq, lds_eq]; exact pieceMC o _ _ _ x
  have e' : ∀ o, k0_pay10 (k0_pay9 (F := Ideal) (ldl o (iblk m c 0 t)) (ldl o (iblk m c 1 t)) (lds o (k0_pay4 (F := Ideal))) (ldl o (iblk m c 2 t)) (lds o (k0_pay5 (F := Ideal)))) = slab o (GA (n := 256) (iblk m c 0 t) (iblk m c 1 t) (iblk m c 2 t) (k0_pay4 (F := Ideal)) (k0_pay5 (F := Ideal))) := by
    intro o; funext x; rw [ldl_eq, ldl_eq, ldl_eq, lds_eq, lds_eq]; exact pieceAC o _ _ _ _ _ x
  exact eight _ (fun o => k0_pay62 (ldl o (iblk m c 0 t)) (ldl o (iblk m c 3 t)) (k0_pay11 (k0_pay8 (F := Ideal) (ldl o (iblk m c 0 t)) (ldl o (iblk m c 1 t)) (lds o (k0_pay4 (F := Ideal))))) (ldl o (iblk m c 4 t)) (k0_pay10 (k0_pay9 (F := Ideal) (ldl o (iblk m c 0 t)) (ldl o (iblk m c 1 t)) (lds o (k0_pay4 (F := Ideal))) (ldl o (iblk m c 2 t)) (lds o (k0_pay5 (F := Ideal))))))
    (fun o x => by rw [e, e', ldl_eq, ldl_eq, ldl_eq]; exact pieceAL o _ _ _ _ _ x) _ _ _ _ _ _ _ _ _
end Cert.Att
end
-- ==== Proof.AttRows.lean ====
module

public import proofs.«01_k».proof.Proof.AttHost
public import proofs.«01_k».proof.Proof.AttPieces
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Att

open Idealize.ShloMosaic Idealize.ShloMosaic.TcCoe Idealize.SL.Sem Cert.KernelIdeal Cert.KernelIdeal.Gen

/-- A head's entry of a context row: the argument's own, zero in the unused lanes. -/
def pC (x : S4x256x8x96.Idx → EReal) (R : Fin 1024) (h : Fin 8) (l : Fin 128) : EReal :=
  if hl : l.val < 96 then x (ix4 ⟨R.val / 256, by omega⟩ ⟨R.val % 256, by omega⟩ h ⟨l.val, hl⟩) else 0

/-- A head's entry of a latent row. -/
def pL (x : S4x8192x8x96.Idx → EReal) (R : Fin 32768) (h : Fin 8) (l : Fin 128) : EReal :=
  if hl : l.val < 96 then x (ix4 ⟨R.val / 8192, by omega⟩ ⟨R.val % 8192, by omega⟩ h ⟨l.val, hl⟩) else 0

/-- A head's values in a context row: the values in the head's half of its lanes, and a one. -/
def wC (x : S4x256x8x64.Idx → EReal) (R : Fin 1024) (h : Fin 8) (l : Fin 128) : EReal :=
  if h.val % 2 = 0 then (if hl : l.val < 64 then x (ix4 ⟨R.val / 256, by omega⟩ ⟨R.val % 256, by omega⟩ h ⟨l.val, hl⟩) else if l.val = 64 then 1 else 0)
  else (if hl : 64 ≤ l.val then x (ix4 ⟨R.val / 256, by omega⟩ ⟨R.val % 256, by omega⟩ h ⟨l.val - 64, by omega⟩) else if l.val = 0 then 1 else 0)

/-- A head's values in a latent row. -/
def wL (x : S4x8192x8x64.Idx → EReal) (R : Fin 32768) (h : Fin 8) (l : Fin 128) : EReal :=
  if h.val % 2 = 0 then (if hl : l.val < 64 then x (ix4 ⟨R.val / 8192, by omega⟩ ⟨R.val % 8192, by omega⟩ h ⟨l.val, hl⟩) else if l.val = 64 then 1 else 0)
  else (if hl : 64 ≤ l.val then x (ix4 ⟨R.val / 8192, by omega⟩ ⟨R.val % 8192, by omega⟩ h ⟨l.val - 64, by omega⟩) else if l.val = 0 then 1 else 0)

theorem zero_word : FloatOps.sitofp (F := Ideal) FTy.f32 (0#32 : BitVec 32) = (0 : EReal) := by
  show ((((0#32 : BitVec 32).toInt : ℤ) : ℝ) : EReal) = 0
  simp

theorem padC_at (x : S4x256x8x96.Idx → EReal) (R : Fin 1024) (h : Fin 8) (l : Fin 128) :
    padC x (ix2 R ⟨128 * h.val + l.val, by omega⟩) = pC x R h l := by
  pointwise [padC, zpad]
  rw [zero_word]; rfl

theorem padL_at (x : S4x8192x8x96.Idx → EReal) (R : Fin 32768) (h : Fin 8) (l : Fin 128) :
    padL x (ix2 R ⟨128 * h.val + l.val, by omega⟩) = pL x R h l := by
  pointwise [padL, zpad]
  rw [zero_word]; rfl

theorem valC_at (x : S4x256x8x64.Idx → EReal) (R : Fin 1024) (h : Fin 8) (l : Fin 128) :
    valC x (ix2 R ⟨128 * h.val + l.val, by omega⟩) = wC x R h l := by
  pointwise [valC, k1c, k63c]
  unfold wC
  by_cases h2 : h.val % 2 = 0
  · by_cases hl : l.val < 64
    · rw [dif_pos (by omega), if_pos h2, dif_pos hl]; blk_ext
    · by_cases h64 : l.val = 64
      · rw [dif_neg (by omega), dif_pos (by omega), if_pos h2, dif_neg hl, if_pos h64]
      · rw [dif_neg (by omega), dif_neg (by omega), dif_pos (by omega), if_pos h2, dif_neg hl, if_neg h64]
  · by_cases hl : 64 ≤ l.val
    · rw [dif_neg (by omega), dif_neg (by omega), dif_neg (by omega), dif_neg (by omega), dif_neg (by omega), if_neg h2, dif_pos hl]; blk_ext
    · by_cases h64 : l.val = 0
      · rw [dif_neg (by omega), dif_neg (by omega), dif_neg (by omega), dif_pos (by omega), if_neg h2, dif_neg hl, if_pos h64]
      · rw [dif_neg (by omega), dif_neg (by omega), dif_neg (by omega), dif_neg (by omega), dif_pos (by omega), if_neg h2, dif_neg hl, if_neg h64]

theorem valL_at (x : S4x8192x8x64.Idx → EReal) (R : Fin 32768) (h : Fin 8) (l : Fin 128) :
    valL x (ix2 R ⟨128 * h.val + l.val, by omega⟩) = wL x R h l := by
  pointwise [valL, k1l, k63l]
  unfold wL
  by_cases h2 : h.val % 2 = 0
  · by_cases hl : l.val < 64
    · rw [dif_pos (by omega), if_pos h2, dif_pos hl]; blk_ext
    · by_cases h64 : l.val = 64
      · rw [dif_neg (by omega), dif_pos (by omega), if_pos h2, dif_neg hl, if_pos h64]
      · rw [dif_neg (by omega), dif_neg (by omega), dif_pos (by omega), if_pos h2, dif_neg hl, if_neg h64]
  · by_cases hl : 64 ≤ l.val
    · rw [dif_neg (by omega), dif_neg (by omega), dif_neg (by omega), dif_neg (by omega), dif_neg (by omega), if_neg h2, dif_pos hl]; blk_ext
    · by_cases h64 : l.val = 0
      · rw [dif_neg (by omega), dif_neg (by omega), dif_neg (by omega), dif_pos (by omega), if_neg h2, dif_neg hl, if_pos h64]
      · rw [dif_neg (by omega), dif_neg (by omega), dif_neg (by omega), dif_neg (by omega), dif_pos (by omega), if_neg h2, dif_neg hl, if_neg h64]

theorem rows_ctx (x y) (R : Fin 1024) (l : Fin 1024) : rows x y (ix2 ⟨R.val, by omega⟩ l) = x (ix2 R l) := by
  pointwise [rows]

theorem rows_lat (x y) (R : Fin 32768) (l : Fin 1024) : rows x y (ix2 ⟨1024 + R.val, by omega⟩ l) = y (ix2 R l) := by
  pointwise [rows]

theorem scaled_at (x) (R : Fin 33792) (l : Fin 1024) : scaled x (ix2 R l)
    = Ideal.div (x (ix2 R l) * Ideal.ofBits FTy.f32 1037108716#32) (Ideal.log (Ideal.ofBits FTy.f32 1073741824#32)) := by
  pointwise [scaled]

variable (m : (ℓ : Loc nD τ sig) → Buf (Elt Ideal) ℓ) (c : Dev nD)

theorem idx03 : ∀ t : Fin cfg0.N, win0_0.index t = ![1 + t.val / 4, 0] ∧ win0_3.index t = ![1024 + 8192 * (t.val / 32) + 2048 * (t.val % 4), 0] :=
  (by decide +kernel : ∀ t : Fin grid0.N, _)
theorem idx124 : ∀ t : Fin cfg0.N, win0_1.index t = ![t.val / 32, 0] ∧ win0_2.index t = ![t.val / 32, 0] ∧ win0_4.index t = ![1024 + 8192 * (t.val / 32) + 2048 * (t.val % 4), 0] :=
  (by decide +kernel : ∀ t : Fin grid0.N, _)

theorem ib0 (t : Fin cfg0.N) (r : Fin 1024) (l : Fin 1024) : iblk m c 0 t (ix2 r l)
    = V m c main_v12 (ix2 ⟨1024 + (1024 * (t.val / 4) + r.val), by have : t.val < 128 := t.isLt; omega⟩ l) := by
  blk_ext [iblk, idx03 t]
theorem ib1 (t : Fin cfg0.N) (r : Fin 256) (l : Fin 1024) : iblk m c 1 t (ix2 r l)
    = V m c main_v20 (ix2 ⟨256 * (t.val / 32) + r.val, by have : t.val < 128 := t.isLt; omega⟩ l) := by
  blk_ext [iblk, idx124 t]
theorem ib2 (t : Fin cfg0.N) (r : Fin 256) (l : Fin 1024) : iblk m c 2 t (ix2 r l)
    = V m c main_v40 (ix2 ⟨256 * (t.val / 32) + r.val, by have : t.val < 128 := t.isLt; omega⟩ l) := by
  blk_ext [iblk, idx124 t]
theorem ib3 (t : Fin cfg0.N) (r : Fin 2048) (l : Fin 1024) : iblk m c 3 t (ix2 r l)
    = V m c main_v20 (ix2 ⟨1024 + (8192 * (t.val / 32) + 2048 * (t.val % 4) + r.val), by have : t.val < 128 := t.isLt; omega⟩ l) := by
  have e : win0_3.index t = _ := (idx03 t).2
  have e0 : win0_3.index t (0 : Fin 2) = 1024 + 8192 * (t.val / 32) + 2048 * (t.val % 4) := congrFun e 0
  have e1 : win0_3.index t (1 : Fin 2) = 0 := congrFun e 1
  blk_ext [iblk]
  · show win0_3.index t (0 : Fin 2) + 1 * r.val = _
    omega
  · show win0_3.index t (1 : Fin 2) + 1 * l.val = _
    omega
theorem ib4 (t : Fin cfg0.N) (r : Fin 2048) (l : Fin 1024) : iblk m c 4 t (ix2 r l)
    = V m c main_v40 (ix2 ⟨1024 + (8192 * (t.val / 32) + 2048 * (t.val % 4) + r.val), by have : t.val < 128 := t.isLt; omega⟩ l) := by
  have e : win0_4.index t = _ := (idx124 t).2.2
  have e0 : win0_4.index t (0 : Fin 2) = 1024 + 8192 * (t.val / 32) + 2048 * (t.val % 4) := congrFun e 0
  have e1 : win0_4.index t (1 : Fin 2) = 0 := congrFun e 1
  blk_ext [iblk]
  · show win0_4.index t (0 : Fin 2) + 1 * r.val = _
    omega
  · show win0_4.index t (1 : Fin 2) + 1 * l.val = _
    omega
end Cert.Att
end
-- ==== Proof.AttFinish.lean ====
module

public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.AttPieces

@[expose] public section

set_option maxRecDepth 16384

noncomputable section

namespace Cert.Att

open Idealize.ShloMosaic Idealize.ShloMosaic.TcCoe Idealize.SL.Sem Cert.KernelIdeal Cert.KernelIdeal.Gen

/-- The finish of a pair of heads from their accumulators: each numerator over the sum kept in the head's own ones lane. -/
def fin2 (x y : S1x1024x128.Idx → EReal) (r : Fin 1024) (l : Fin 128) : EReal :=
  if l.val < 64 then Ideal.div (x (ix3 0 r l)) (x (ix3 0 r 64)) else Ideal.div (y (ix3 0 r l)) (y (ix3 0 r 0))

theorem fin_at (x y : Vec Ideal S1x1024x128 .f32) (r : Fin 1024) (l : Fin 128) : k0_pay51 (F := Ideal) x y (ix2 r l) = fin2 x y r l := by
  pointwise [k0_pay51]
  have e64 : ∀ a : Fin 128, IntOp.cmpi CmpIPredicate.eq (BitVec.ofNat 32 a.val) 64#32 = if a = 64 then 1#1 else 0#1 := by decide +kernel
  have e0 : ∀ a : Fin 128, IntOp.cmpi CmpIPredicate.eq (BitVec.ofNat 32 a.val) 0#32 = if a = 0 then 1#1 else 0#1 := by decide +kernel
  have el : ∀ a : Fin 128, IntOp.cmpi CmpIPredicate.slt (BitVec.ofNat 32 a.val) 64#32 = if a.val < 64 then 1#1 else 0#1 := by decide +kernel
  have hsel : ∀ (p : Prop) [Decidable p] (u w : EReal), Scalar.select (if p then 1#1 else 0#1) u w = if p then u else w := fun p _ u w => by
    by_cases h : p <;> simp [Scalar.select, h]
  simp only [e64, e0, el, hsel, Finset.sum_ite_eq', Finset.mem_univ, if_true]
  rfl

theorem inbO (o : Fin 4) : ∀ a, (![0, 128 * o.val] : Fin 2 → ℕ) a + (![1024, 128] : Fin 2 → ℕ) a ≤ S1024x512.size a := by
  intro a; have := o.isLt; fin_cases a <;> simp <;> omega

theorem col_emb (o : Fin 4) (h) (x : S1024x128.Idx) :
    (Rect.unit (s := S1024x512) ![0, 128 * o.val] ![1024, 128] h).emb x = ix2 (x 0) ⟨128 * o.val + (x 1).val, by have h : (x 1).val < 128 := (x 1).isLt; have := o.isLt; show _ < 512; omega⟩ := by
  funext a; apply Fin.ext
  show ((Rect.unit (s := S1024x512) ![0, 128 * o.val] ![1024, 128] h).idx x a).val = _
  fin_cases a <;> simp [LoadRect.idx]

/-- Four stores, one per pair of heads, leave the function they are blocks of. -/
theorem four (G : S1024x512.Idx → EReal) (P : Fin 4 → S1024x128.Idx → EReal)
    (hP : ∀ o x, P o x = G (ix2 (x 0) ⟨128 * o.val + (x 1).val, by have h : (x 1).val < 128 := (x 1).isLt; have := o.isLt; show _ < 512; omega⟩)) (i0 i1 i2 i3) :
    View.canon (Val := Elt Ideal) (s := S1024x512) (e := .bf16)
      [⟨Rect.unit ![0, 384] ![1024, 128] i3, P 3⟩, ⟨Rect.unit ![0, 256] ![1024, 128] i2, P 2⟩,
        ⟨Rect.unit ![0, 128] ![1024, 128] i1, P 1⟩, ⟨Rect.unit ![0, 0] ![1024, 128] i0, P 0⟩] = G := by
  funext y
  have hp : ∀ (o : Fin 4) (h) (x : S1024x128.Idx), P o x = G ((Rect.unit (s := S1024x512) ![0, 128 * o.val] ![1024, 128] h).emb x) :=
    fun o h x => by rw [col_emb]; exact hP o x
  have hm : ∀ o : Fin 4, (y 1).val / 128 = o.val → y ∈ (Rect.unit (s := S1024x512) ![0, 128 * o.val] ![1024, 128] (inbO o)).set := by
    intro o ho
    rw [Rect.mem_set_unit]
    have h0 : (y 0).val < 1024 := (y 0).isLt
    intro a; fin_cases a <;> simp <;> omega
  obtain ⟨o, ho⟩ : ∃ o : Fin 4, (y 1).val / 128 = o.val :=
    ⟨⟨(y 1).val / 128, by have : (y 1).val < 512 := (y 1).isLt; omega⟩, rfl⟩
  have hy := hm o ho
  refine View.canon_append_of_piecesOf (Val := Elt Ideal) (s := S1024x512) (e := .bf16) G []
    [⟨Rect.unit ![0, 384] ![1024, 128] i3, P 3⟩, ⟨Rect.unit ![0, 256] ![1024, 128] i2, P 2⟩,
      ⟨Rect.unit ![0, 128] ![1024, 128] i1, P 1⟩, ⟨Rect.unit ![0, 0] ![1024, 128] i0, P 0⟩]
    ⟨hp 3 i3, hp 2 i2, hp 1 i1, hp 0 i0, trivial⟩ y ?_
  have hl : ∀ (p : View.Piece (Elt Ideal) S1024x512 .bf16) (A B : List (View.Piece (Elt Ideal) S1024x512 .bf16)), y ∈ p.1.set → ∃ q ∈ A ++ p :: B, y ∈ q.1.set :=
    fun p A B h => ⟨p, List.mem_append_right A (.head B), h⟩
  fin_cases o
  · exact hl ⟨Rect.unit ![0, 0] ![1024, 128] i0, P 0⟩ [_, _, _] [] hy
  · exact hl ⟨Rect.unit ![0, 128] ![1024, 128] i1, P 1⟩ [_, _] [_] hy
  · exact hl ⟨Rect.unit ![0, 256] ![1024, 128] i2, P 2⟩ [_] [_, _] hy
  · exact hl ⟨Rect.unit ![0, 384] ![1024, 128] i3, P 3⟩ [] [_, _, _] hy

/-- The first and second head of a pair. -/
def ev (o : Fin 4) : Fin 8 := ⟨2 * o.val, by omega⟩
def od (o : Fin 4) : Fin 8 := ⟨2 * o.val + 1, by omega⟩

/-- The output block from the accumulators. -/
def GO (acc : S8x1024x128.Idx → EReal) : S1024x512.Idx → EReal := fun i =>
  have h : (i 1).val < 512 := (i 1).isLt
  fin2 (slab (ev ⟨(i 1).val / 128, by omega⟩) acc) (slab (od ⟨(i 1).val / 128, by omega⟩) acc) (i 0) ⟨(i 1).val % 128, Nat.mod_lt _ (by decide)⟩

theorem pieceO (o : Fin 4) (acc : S8x1024x128.Idx → EReal) (x : S1024x128.Idx) :
    k0_pay51 (F := Ideal) (slab (ev o) acc) (slab (od o) acc) x
      = GO acc (ix2 (x 0) ⟨128 * o.val + (x 1).val, by have h : (x 1).val < 128 := (x 1).isLt; have := o.isLt; show _ < 512; omega⟩) := by
  have h : (x 1).val < 128 := (x 1).isLt
  have ho : (⟨(128 * o.val + (x 1).val) / 128, by omega⟩ : Fin 4) = o := Fin.ext (by show (128 * o.val + (x 1).val) / 128 = o.val; omega)
  have hl : (⟨(128 * o.val + (x 1).val) % 128, Nat.mod_lt _ (by decide)⟩ : Fin 128) = x 1 := Fin.ext (by show (128 * o.val + (x 1).val) % 128 = (x 1).val; omega)
  have hx : x = ix2 (x 0) (x 1) := by funext a; fin_cases a <;> rfl
  rw [hx]
  refine (fin_at _ _ _ _).trans ?_
  show _ = fin2 (slab (ev ⟨(128 * o.val + (x 1).val) / 128, _⟩) acc) (slab (od ⟨(128 * o.val + (x 1).val) / 128, _⟩) acc) (x 0) ⟨(128 * o.val + (x 1).val) % 128, _⟩
  rw [ho, hl]

variable (m : (ℓ : Loc nD τ sig) → Buf (Elt Ideal) ℓ) (c : Dev nD)

theorem stepC_o (t : Fin grid0.N) (h0 : ¬ t.val % 4 = 0) (h1 : t.val % 4 = 3) :
  (outsAt0 m c t.val t.isLt).1 = GO (GA (n := 2048) (iblk m c 0 t) (iblk m c 3 t) (iblk m c 4 t) (outsAt0 m c (t.val - 1) (Nat.lt_of_le_of_lt (Nat.sub_le _ _) t.isLt)).2.2 (outsAt0 m c (t.val - 1) (Nat.lt_of_le_of_lt (Nat.sub_le _ _) t.isLt)).2.1) := by
  rw [outsAt0_C m c t h0 h1]
  frame_open
  simp (disch := decide) only [↓ View.readCov_skip, ↓ View.readCov_cons_toLoadRect, ↓ View.readCov_fill]
  frame_out
  simp only [read_unread_whole]
  generalize (outsAt0 m c (t.val - 1) _).2.2 = mp
  generalize (outsAt0 m c (t.val - 1) _).2.1 = ap
  have e : ∀ o, k0_pay62 (ldl o (iblk m c 0 t)) (ldl o (iblk m c 3 t)) (lds o mp) (ldl o (iblk m c 4 t)) (lds o ap)
      = slab o (GA (n := 2048) (iblk m c 0 t) (iblk m c 3 t) (iblk m c 4 t) mp ap) := by
    intro o; funext x; rw [ldl_eq, ldl_eq, ldl_eq, lds_eq, lds_eq]; exact pieceAL o _ _ _ _ _ x
  exact four _ (fun o => k0_pay51 (F := Ideal) (k0_pay62 (ldl (ev o) (iblk m c 0 t)) (ldl (ev o) (iblk m c 3 t)) (lds (ev o) mp) (ldl (ev o) (iblk m c 4 t)) (lds (ev o) ap))
      (k0_pay62 (ldl (od o) (iblk m c 0 t)) (ldl (od o) (iblk m c 3 t)) (lds (od o) mp) (ldl (od o) (iblk m c 4 t)) (lds (od o) ap)))
    (fun o x => by rw [e, e]; exact pieceO o _ x) _ _ _ _
end Cert.Att
end
-- ==== Proof.AttMath.lean ====
module

public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.AttStep

@[expose] public section

set_option maxRecDepth 16384

noncomputable section

namespace Cert.Att

open Idealize.ShloMosaic Idealize.ShloMosaic.TcCoe Idealize.SL.Sem Cert.KernelIdeal Cert.KernelIdeal.Gen

/-- The weighted sum of a block of values, at base 2 from the offset `r`. -/
def W {n : ℕ} (r : ℝ) (s : Fin n → ℝ) (v : Fin n → EReal) : EReal := ∑ j, ((Real.rpow 2 (s j - r) : ℝ) : EReal) * v j

theorem sum_mul_coe {ι : Type} (S : Finset ι) (f : ι → EReal) (c : ℝ) (hc : 0 ≤ c) :
    (∑ i ∈ S, f i) * (c : EReal) = ∑ i ∈ S, f i * (c : EReal) := by
  classical
  induction S using Finset.induction_on with
  | empty => simp
  | insert a S h ih =>
    rw [Finset.sum_insert h, Finset.sum_insert h,
      EReal.right_distrib_of_nonneg_of_ne_top (by exact_mod_cast hc) (EReal.coe_ne_top c), ih]

theorem coe_sum {ι : Type} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

/-- Moving the offset scales a weighted sum. -/
theorem W_scale {n : ℕ} (r r' : ℝ) (s : Fin n → ℝ) (v : Fin n → EReal) :
    W r s v * ((Real.rpow 2 (r - r') : ℝ) : EReal) = W r' s v := by
  have hp : (0 : ℝ) ≤ Real.rpow 2 (r - r') := Real.rpow_nonneg (by norm_num) _
  rw [W, sum_mul_coe _ _ _ hp]
  refine Finset.sum_congr rfl fun j _ => ?_
  rw [mul_right_comm, ← EReal.coe_mul]
  have : Real.rpow 2 (s j - r) * Real.rpow 2 (r - r') = Real.rpow 2 (s j - r') := by
    show (2 : ℝ) ^ (s j - r) * (2 : ℝ) ^ (r - r') = (2 : ℝ) ^ (s j - r')
    rw [← Real.rpow_add (by norm_num)]; congr 1; ring
  rw [this]

theorem negInf : Ideal.ofBits FTy.f32 4286578688#32 = ⊥ := by simp [Ideal.ofBits, Ideal.ieee]

/-- The maximum of a real number and of finitely many real scores is real. -/
theorem max_real {n : ℕ} (a : ℝ) (s : Fin n → EReal) (sR : Fin n → ℝ) (hs : ∀ j, s j = (sR j : EReal)) :
    ∃ r : ℝ, max (a : EReal) (Finset.fold max (Ideal.ofBits FTy.f32 4286578688#32) s Finset.univ) = (r : EReal) := by
  have hlt : Finset.fold max (Ideal.ofBits FTy.f32 4286578688#32) s Finset.univ < ⊤ := by
    rw [Finset.fold_max_lt]
    exact ⟨by rw [negInf]; exact bot_lt_top, fun j _ => by rw [hs]; exact EReal.coe_lt_top _⟩
  have h1 : max (a : EReal) (Finset.fold max (Ideal.ofBits FTy.f32 4286578688#32) s Finset.univ) ≠ ⊤ :=
    ne_of_lt (max_lt (EReal.coe_lt_top a) hlt)
  have h2 : max (a : EReal) (Finset.fold max (Ideal.ofBits FTy.f32 4286578688#32) s Finset.univ) ≠ ⊥ :=
    ne_of_gt (lt_of_lt_of_le (EReal.bot_lt_coe a) (le_max_left _ _))
  exact ⟨_, (EReal.coe_toReal h1 h2).symm⟩

/-- One block of keys, one row, one head: the new maximum is real and the same in every lane, and the accumulator is
    rescaled and gains the block's weighted sum. -/
theorem step_row {n : ℕ} (q : Vec Ideal S1024x128 .bf16) (k v : (⟨2, ![n, 128]⟩ : Shape).Idx → EReal) (mp ap : Vec Ideal S1x1024x128 .f32)
    (r : Fin 1024) (sR : Fin n → ℝ) (hs : ∀ j, sc q k r j = (sR j : EReal)) (a : ℝ) (hm : ∀ l, mp (ix3 0 r l) = (a : EReal)) :
    ∃ b : ℝ, (∀ l, mx q k mp r l = (b : EReal))
      ∧ ∀ l, ac q k v mp ap r l = ap (ix3 0 r l) * ((Real.rpow 2 (a - b) : ℝ) : EReal) + W b sR (fun j => v (ix2 j l)) := by
  obtain ⟨b, hb⟩ := max_real a (fun j => sc q k r j) sR hs
  have hmx : ∀ l, mx q k mp r l = (b : EReal) := fun l => by rw [mx, hm]; exact hb
  refine ⟨b, hmx, fun l => ?_⟩
  rw [ac, hmx, hm, ← EReal.coe_sub, Ideal.exp2_coe]
  congr 1
  refine Finset.sum_congr rfl fun j _ => ?_
  rw [hs, hmx, ← EReal.coe_sub, Ideal.exp2_coe]

/-- The quotient of the two weighted sums is the softmax-weighted sum of the values, whatever offsets were used. -/
theorem quot {ι : Type} [Fintype ι] [Nonempty ι] (s t : ι → ℝ) (v : ι → EReal) (r M : ℝ) (hst : ∀ j, s j * Real.log 2 = t j) :
    Ideal.div (∑ j, ((Real.rpow 2 (s j - r) : ℝ) : EReal) * v j) (∑ j, ((Real.rpow 2 (s j - r) : ℝ) : EReal) * 1)
      = ∑ j, v j * ((Real.exp (t j - M) / ∑ i, Real.exp (t i - M) : ℝ) : EReal) := by
  have hpos : 0 < ∑ j, Real.rpow 2 (s j - r) := Finset.sum_pos (fun j _ => Real.rpow_pos_of_pos (by norm_num) _) Finset.univ_nonempty
  have hw : ∀ j, Real.rpow 2 (s j - r) = Real.exp (t j - M) * Real.exp (M - r * Real.log 2) := fun j => by
    show (2 : ℝ) ^ (s j - r) = _
    rw [Real.rpow_def_of_pos (by norm_num), ← Real.exp_add, ← hst]; congr 1; ring
  simp only [mul_one]
  rw [← coe_sum, Ideal.div_coe (ne_of_gt hpos), sum_mul_coe _ _ _ (by positivity)]
  refine Finset.sum_congr rfl fun j _ => ?_
  rw [mul_right_comm, mul_comm, ← EReal.coe_mul]
  congr 2
  simp only [hw]
  rw [← Finset.sum_mul]
  have h1 : Real.exp (M - r * Real.log 2) ≠ 0 := Real.exp_ne_zero _
  have h2 : ∑ i, Real.exp (t i - M) ≠ 0 := ne_of_gt (Finset.sum_pos (fun j _ => Real.exp_pos _) Finset.univ_nonempty)
  field_simp
end Cert.Att
end
-- ==== Proof.AttTile.lean ====
module

public import proofs.«01_k».proof.Proof.AttRows
public import proofs.«01_k».proof.Proof.AttFinish
public import proofs.«01_k».proof.Proof.AttMath
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Att

open Idealize.ShloMosaic Idealize.ShloMosaic.TcCoe Idealize.SL.Sem Cert.KernelIdeal Cert.KernelIdeal.Gen

/-- The softmax scale, as a real number. -/
def σ : ℝ := (Ideal.ofBits FTy.f32 1037108716#32).toReal

theorem σ_eq : Ideal.ofBits FTy.f32 1037108716#32 = (σ : EReal) := by
  have h : ∃ y : ℝ, Ideal.ofBits FTy.f32 1037108716#32 = (y : EReal) := by
    simp only [Ideal.ofBits, Ideal.ieee]
    simp
    exact ⟨_, (EReal.coe_mul _ _).symm⟩
  obtain ⟨y, hy⟩ := h
  rw [σ, hy, EReal.toReal_coe]

theorem two_eq : Ideal.log (Ideal.ofBits FTy.f32 1073741824#32) = (Real.log 2 : EReal) := by
  have h : Ideal.ofBits FTy.f32 1073741824#32 = ((2 : ℝ) : EReal) := by
    simp [Ideal.ofBits, Ideal.ieee]
    rw [← EReal.coe_mul]; norm_num
  rw [h]
  show (if (2 : ℝ) ≤ 0 then (⊥ : EReal) else ((Real.log 2 : ℝ) : EReal)) = _
  exact if_neg (by norm_num)

/-- A score over the 128 lanes is the score over the 96 used ones. -/
theorem dot_used (f g : Fin 128 → EReal) (fr gr : Fin 96 → ℝ) (hf : ∀ a, f a = if h : a.val < 96 then (fr ⟨a.val, h⟩ : EReal) else 0)
    (hg : ∀ a, g a = if h : a.val < 96 then (gr ⟨a.val, h⟩ : EReal) else 0) :
    ∑ a, Ideal.div (f a * Ideal.ofBits FTy.f32 1037108716#32) (Ideal.log (Ideal.ofBits FTy.f32 1073741824#32)) * g a
      = (((∑ a, fr a * gr a) * σ / Real.log 2 : ℝ) : EReal) := by
  have hl : Real.log 2 ≠ 0 := ne_of_gt (Real.log_pos (by norm_num))
  have hterm : ∀ a, Ideal.div (f a * Ideal.ofBits FTy.f32 1037108716#32) (Ideal.log (Ideal.ofBits FTy.f32 1073741824#32)) * g a
      = ((if h : a.val < 96 then fr ⟨a.val, h⟩ * gr ⟨a.val, h⟩ * (σ / Real.log 2) else 0 : ℝ) : EReal) := by
    intro a
    rw [σ_eq, two_eq, Ideal.div_coe hl, hf, hg]
    by_cases h : a.val < 96
    · rw [dif_pos h, dif_pos h, dif_pos h, ← EReal.coe_mul, ← EReal.coe_mul, ← EReal.coe_mul]
      congr 1; ring
    · rw [dif_neg h, dif_neg h, dif_neg h]; simp
  rw [Finset.sum_congr rfl fun a _ => hterm a, ← coe_sum]
  congr 1
  rw [show (∑ a, fr a * gr a) * σ / Real.log 2 = ∑ a, fr a * gr a * (σ / Real.log 2) by rw [← Finset.sum_mul]; ring]
  refine (Fin.sum_univ_add (fun a : Fin (96 + 32) => if h : a.val < 96 then fr ⟨a.val, h⟩ * gr ⟨a.val, h⟩ * (σ / Real.log 2) else 0)).trans ?_
  rw [Finset.sum_eq_zero (s := (Finset.univ : Finset (Fin 32))) (fun a _ => dif_neg (by simp)), add_zero]
  exact Finset.sum_congr rfl fun a _ => dif_pos a.isLt

/-- One block of keys for one head and row, the running sums written over all keys so far. -/
theorem tile {n : ℕ} (q : S1024x1024.Idx → EReal) (k v : (⟨2, ![n, 1024]⟩ : Shape).Idx → EReal) (mp ap : S8x1024x128.Idx → EReal)
    (h : Fin 8) (r : Fin 1024) (n0 : ℕ) (s : ℕ → ℝ) (u : Fin 128 → ℕ → EReal)
    (hs : ∀ j : Fin n, sc (lane h q) (lane h k) r j = (s (n0 + j.val) : EReal)) (hv : ∀ (j : Fin n) l, lane h v (ix2 j l) = u l (n0 + j.val))
    (H : ∃ a : ℝ, (∀ l, mp (ix3 h r l) = (a : EReal)) ∧ ∀ l, ap (ix3 h r l) = ∑ J ∈ Finset.range n0, ((Real.rpow 2 (s J - a) : ℝ) : EReal) * u l J) :
    ∃ b : ℝ, (∀ l, GM q k mp (ix3 h r l) = (b : EReal))
      ∧ ∀ l, GA q k v mp ap (ix3 h r l) = ∑ J ∈ Finset.range (n0 + n), ((Real.rpow 2 (s J - b) : ℝ) : EReal) * u l J := by
  obtain ⟨a, hm, ha⟩ := H
  obtain ⟨b, hb, hac⟩ := step_row (lane h q) (lane h k) (lane h v) (slab h mp) (slab h ap) r (fun j => s (n0 + j.val)) hs a hm
  refine ⟨b, hb, fun l => (hac l).trans ?_⟩
  have e : slab h ap (ix3 0 r l) = W a (fun J : Fin n0 => s J.val) (fun J => u l J.val) :=
    (ha l).trans (Finset.sum_range _)
  rw [e, W_scale, Finset.sum_range_add]
  congr 1
  · exact (Finset.sum_range (fun J => ((Real.rpow 2 (s J - b) : ℝ) : EReal) * u l J)).symm
  · refine Eq.trans ?_ (Finset.sum_range (fun J => ((Real.rpow 2 (s (n0 + J) - b) : ℝ) : EReal) * u l (n0 + J))).symm
    exact Finset.sum_congr rfl fun j _ => by
      show _ * lane h v (ix2 j l) = _
      rw [hv]
end Cert.Att
end
-- ==== Proof.AttInv.lean ====
module

public import proofs.«01_k».proof.Proof.AttTile
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Att

open Idealize.ShloMosaic Idealize.ShloMosaic.TcCoe Idealize.SL.Sem Cert.KernelIdeal Cert.KernelIdeal.Gen

/-- A key's entry, among the context keys and then the latent ones. -/
def keyR (x2 : S4x256x8x96.Idx → EReal) (x3 : S4x8192x8x96.Idx → EReal) (b : Fin 4) (h : Fin 8) (J : ℕ) (a : Fin 96) : ℝ :=
  if hJ : J < 256 then (x2 (ix4 b ⟨J, hJ⟩ h a)).toReal
  else if hJ : J - 256 < 8192 then (x3 (ix4 b ⟨J - 256, hJ⟩ h a)).toReal else 0

/-- The scaled score of a latent row against key `J`. -/
def tR (x1 : S4x8192x8x96.Idx → EReal) (x2 : S4x256x8x96.Idx → EReal) (x3 : S4x8192x8x96.Idx → EReal) (R : Fin 32768) (h : Fin 8) (J : ℕ) : ℝ :=
  (∑ a, (x1 (ix4 ⟨R.val / 8192, by omega⟩ ⟨R.val % 8192, by omega⟩ h a)).toReal * keyR x2 x3 ⟨R.val / 8192, by omega⟩ h J a) * σ

/-- The packed values of key `J`. -/
def valU (x4 : S4x256x8x64.Idx → EReal) (x5 : S4x8192x8x64.Idx → EReal) (b : Fin 4) (h : Fin 8) (l : Fin 128) (J : ℕ) : EReal :=
  if hJ : J < 256 then wC x4 ⟨256 * b.val + J, by omega⟩ h l
  else if hJ : J - 256 < 8192 then wL x5 ⟨8192 * b.val + (J - 256), by omega⟩ h l else 0

variable (m : (ℓ : Loc nD τ sig) → Buf (Elt Ideal) ℓ) (c : Dev nD)

/-- The latent queries, the keys and the values a device is given. -/
def a1 : S4x8192x8x96.Idx → EReal := m ((c.tc : Thread nD τ).loc main_arg1)
def a2 : S4x256x8x96.Idx → EReal := m ((c.tc : Thread nD τ).loc main_arg2)
def a3 : S4x8192x8x96.Idx → EReal := m ((c.tc : Thread nD τ).loc main_arg3)
def a4 : S4x256x8x64.Idx → EReal := m ((c.tc : Thread nD τ).loc main_arg4)
def a5 : S4x8192x8x64.Idx → EReal := m ((c.tc : Thread nD τ).loc main_arg5)

/-- The latent row a point's row is. -/
def row (t : Fin cfg0.N) (r : Fin 1024) : Fin 32768 := ⟨1024 * (t.val / 4) + r.val, by have : t.val < 128 := t.isLt; omega⟩

theorem q_at (t : Fin cfg0.N) (r : Fin 1024) (h : Fin 8) (l : Fin 128) : lane (n := 1024) h (iblk m c 0 t) (ix2 r l)
    = Ideal.div (pL (a1 m c) (row t r) h l * Ideal.ofBits FTy.f32 1037108716#32) (Ideal.log (Ideal.ofBits FTy.f32 1073741824#32)) := by
  show iblk m c 0 t (ix2 r ⟨128 * h.val + l.val, _⟩) = _
  refine (ib0 m c t r _).trans ?_
  rw [Vq]
  refine (scaled_at _ _ _).trans ?_
  exact congrArg (fun z => Ideal.div (z * Ideal.ofBits FTy.f32 1037108716#32) (Ideal.log (Ideal.ofBits FTy.f32 1073741824#32)))
    ((rows_lat _ _ (row t r) _).trans (padL_at _ _ _ _))

theorem kc_at (t : Fin cfg0.N) (j : Fin 256) (h : Fin 8) (l : Fin 128) : lane (n := 256) h (iblk m c 1 t) (ix2 j l)
    = pC (a2 m c) ⟨256 * (t.val / 32) + j.val, by have : t.val < 128 := t.isLt; omega⟩ h l := by
  show iblk m c 1 t (ix2 j ⟨128 * h.val + l.val, _⟩) = _
  refine (ib1 m c t j _).trans ?_
  rw [Vk]
  exact (rows_ctx _ _ ⟨256 * (t.val / 32) + j.val, by have : t.val < 128 := t.isLt; omega⟩ _).trans (padC_at _ _ _ _)

theorem vc_at (t : Fin cfg0.N) (j : Fin 256) (h : Fin 8) (l : Fin 128) : lane (n := 256) h (iblk m c 2 t) (ix2 j l)
    = wC (a4 m c) ⟨256 * (t.val / 32) + j.val, by have : t.val < 128 := t.isLt; omega⟩ h l := by
  show iblk m c 2 t (ix2 j ⟨128 * h.val + l.val, _⟩) = _
  refine (ib2 m c t j _).trans ?_
  rw [Vv]
  exact (rows_ctx _ _ ⟨256 * (t.val / 32) + j.val, by have : t.val < 128 := t.isLt; omega⟩ _).trans (valC_at _ _ _ _)

theorem kl_at (t : Fin cfg0.N) (j : Fin 2048) (h : Fin 8) (l : Fin 128) : lane (n := 2048) h (iblk m c 3 t) (ix2 j l)
    = pL (a3 m c) ⟨8192 * (t.val / 32) + 2048 * (t.val % 4) + j.val, by have : t.val < 128 := t.isLt; omega⟩ h l := by
  show iblk m c 3 t (ix2 j ⟨128 * h.val + l.val, _⟩) = _
  refine (ib3 m c t j _).trans ?_
  rw [Vk]
  exact (rows_lat _ _ ⟨8192 * (t.val / 32) + 2048 * (t.val % 4) + j.val, by have : t.val < 128 := t.isLt; omega⟩ _).trans (padL_at _ _ _ _)

theorem vl_at (t : Fin cfg0.N) (j : Fin 2048) (h : Fin 8) (l : Fin 128) : lane (n := 2048) h (iblk m c 4 t) (ix2 j l)
    = wL (a5 m c) ⟨8192 * (t.val / 32) + 2048 * (t.val % 4) + j.val, by have : t.val < 128 := t.isLt; omega⟩ h l := by
  show iblk m c 4 t (ix2 j ⟨128 * h.val + l.val, _⟩) = _
  refine (ib4 m c t j _).trans ?_
  rw [Vv]
  exact (rows_lat _ _ ⟨8192 * (t.val / 32) + 2048 * (t.val % 4) + j.val, by have : t.val < 128 := t.isLt; omega⟩ _).trans (valL_at _ _ _ _)

/-- The queries and the keys are finite. -/
def Fin3 : Prop := (∀ i, a1 m c i = ((a1 m c i).toReal : EReal)) ∧ (∀ i, a2 m c i = ((a2 m c i).toReal : EReal)) ∧ ∀ i, a3 m c i = ((a3 m c i).toReal : EReal)

theorem sc_ctx (hf : Fin3 m c) (t : Fin cfg0.N) (r : Fin 1024) (h : Fin 8) (j : Fin 256) :
    sc (n := 256) (lane h (iblk m c 0 t)) (lane h (iblk m c 1 t)) r j = ((tR (a1 m c) (a2 m c) (a3 m c) (row t r) h (0 + j.val) / Real.log 2 : ℝ) : EReal) := by
  have ht : t.val < 128 := t.isLt
  rw [sc, Finset.sum_congr rfl fun a _ => by rw [q_at, kc_at]]
  refine dot_used _ _ (fun a => (a1 m c (ix4 ⟨(row t r).val / 8192, by omega⟩ ⟨(row t r).val % 8192, by omega⟩ h a)).toReal)
    (keyR (a2 m c) (a3 m c) ⟨(row t r).val / 8192, by omega⟩ h (0 + j.val)) (fun a => ?_) (fun a => ?_)
  · unfold pL
    by_cases ha : a.val < 96
    · rw [dif_pos ha, dif_pos ha, ← hf.1]
    · rw [dif_neg ha, dif_neg ha]
  · unfold pC
    by_cases ha : a.val < 96
    · rw [dif_pos ha, dif_pos ha, keyR, dif_pos (by omega), ← hf.2.1]
      congr 2 <;> (apply Fin.ext; simp only [row]; omega)
    · rw [dif_neg ha, dif_neg ha]

theorem sc_lat (hf : Fin3 m c) (t : Fin cfg0.N) (r : Fin 1024) (h : Fin 8) (j : Fin 2048) :
    sc (n := 2048) (lane h (iblk m c 0 t)) (lane h (iblk m c 3 t)) r j
      = ((tR (a1 m c) (a2 m c) (a3 m c) (row t r) h (256 + 2048 * (t.val % 4) + j.val) / Real.log 2 : ℝ) : EReal) := by
  have ht : t.val < 128 := t.isLt
  rw [sc, Finset.sum_congr rfl fun a _ => by rw [q_at, kl_at]]
  refine dot_used _ _ (fun a => (a1 m c (ix4 ⟨(row t r).val / 8192, by omega⟩ ⟨(row t r).val % 8192, by omega⟩ h a)).toReal)
    (keyR (a2 m c) (a3 m c) ⟨(row t r).val / 8192, by omega⟩ h (256 + 2048 * (t.val % 4) + j.val)) (fun a => ?_) (fun a => ?_)
  · unfold pL
    by_cases ha : a.val < 96
    · rw [dif_pos ha, dif_pos ha, ← hf.1]
    · rw [dif_neg ha, dif_neg ha]
  · unfold pL
    by_cases ha : a.val < 96
    · rw [dif_pos ha, dif_pos ha, keyR, dif_neg (by omega), dif_pos (by omega), ← hf.2.2]
      congr 2 <;> (apply Fin.ext; simp only [row]; omega)
    · rw [dif_neg ha, dif_neg ha]

theorem vv_ctx (t : Fin cfg0.N) (r : Fin 1024) (h : Fin 8) (j : Fin 256) (l : Fin 128) :
    lane (n := 256) h (iblk m c 2 t) (ix2 j l) = valU (a4 m c) (a5 m c) ⟨(row t r).val / 8192, by omega⟩ h l (0 + j.val) := by
  have ht : t.val < 128 := t.isLt
  rw [vc_at, valU, dif_pos (by omega)]
  congr 1; apply Fin.ext; simp only [row]; omega

theorem vv_lat (t : Fin cfg0.N) (r : Fin 1024) (h : Fin 8) (j : Fin 2048) (l : Fin 128) :
    lane (n := 2048) h (iblk m c 4 t) (ix2 j l) = valU (a4 m c) (a5 m c) ⟨(row t r).val / 8192, by omega⟩ h l (256 + 2048 * (t.val % 4) + j.val) := by
  have ht : t.val < 128 := t.isLt
  rw [vl_at, valU, dif_neg (by omega), dif_pos (by omega)]
  congr 1; apply Fin.ext; simp only [row]; omega

/-- What the carried maximum and accumulator are once the keys before `n` have been seen. -/
def Seen (t : Fin cfg0.N) (n : ℕ) (M A : S8x1024x128.Idx → EReal) : Prop :=
  ∀ (h : Fin 8) (r : Fin 1024), ∃ a : ℝ, (∀ l, M (ix3 h r l) = (a : EReal))
    ∧ ∀ l, A (ix3 h r l) = ∑ J ∈ Finset.range n, ((Real.rpow 2 (tR (a1 m c) (a2 m c) (a3 m c) (row t r) h J / Real.log 2 - a) : ℝ) : EReal)
        * valU (a4 m c) (a5 m c) ⟨(row t r).val / 8192, by omega⟩ h l J

theorem start_word : ∃ a : ℝ, Ideal.ofBits FTy.f32 0xF149F2CA#32 = (a : EReal) := by
  simp only [Ideal.ofBits, Ideal.ieee]
  simp
  exact ⟨-(13234890 * 2 ^ 76), by rw [EReal.coe_neg, EReal.coe_mul, EReal.coe_pow]⟩

theorem start_m (h : Fin 8) (r : Fin 1024) (l : Fin 128) : k0_pay4 (F := Ideal) (ix3 h r l) = Ideal.ofBits FTy.f32 0xF149F2CA#32 := by
  pointwise [k0_pay4]

theorem start_a (h : Fin 8) (r : Fin 1024) (l : Fin 128) : k0_pay5 (F := Ideal) (ix3 h r l) = 0 := by
  pointwise [k0_pay5]

theorem seen_start (t : Fin cfg0.N) : Seen m c t 0 (k0_pay4 (F := Ideal)) (k0_pay5 (F := Ideal)) := by
  intro h r
  obtain ⟨a, ha⟩ := start_word
  refine ⟨a, fun l => (start_m h r l).trans ha, fun l => ?_⟩
  rw [Finset.range_zero, Finset.sum_empty]
  exact start_a h r l

theorem seen_ctx (hf : Fin3 m c) (t : Fin cfg0.N) (M A : S8x1024x128.Idx → EReal) (H : Seen m c t 0 M A) :
    Seen m c t 256 (GM (n := 256) (iblk m c 0 t) (iblk m c 1 t) M) (GA (n := 256) (iblk m c 0 t) (iblk m c 1 t) (iblk m c 2 t) M A) := by
  intro h r
  exact tile (n := 256) (iblk m c 0 t) (iblk m c 1 t) (iblk m c 2 t) M A h r 0 (fun J => tR (a1 m c) (a2 m c) (a3 m c) (row t r) h J / Real.log 2)
    (fun l J => valU (a4 m c) (a5 m c) ⟨(row t r).val / 8192, by omega⟩ h l J) (sc_ctx m c hf t r h) (vv_ctx m c t r h) (H h r)

theorem seen_lat (hf : Fin3 m c) (t : Fin cfg0.N) (M A : S8x1024x128.Idx → EReal) (H : Seen m c t (256 + 2048 * (t.val % 4)) M A) :
    Seen m c t (256 + 2048 * (t.val % 4) + 2048) (GM (n := 2048) (iblk m c 0 t) (iblk m c 3 t) M) (GA (n := 2048) (iblk m c 0 t) (iblk m c 3 t) (iblk m c 4 t) M A) := by
  intro h r
  exact tile (n := 2048) (iblk m c 0 t) (iblk m c 3 t) (iblk m c 4 t) M A h r _ (fun J => tR (a1 m c) (a2 m c) (a3 m c) (row t r) h J / Real.log 2)
    (fun l J => valU (a4 m c) (a5 m c) ⟨(row t r).val / 8192, by omega⟩ h l J) (sc_lat m c hf t r h) (vv_lat m c t r h) (H h r)

/-- A point within a run sees the rows the run's other points see. -/
theorem seen_prev (t t' : Fin cfg0.N) (h : t'.val / 4 = t.val / 4) (n : ℕ) (M A) (H : Seen m c t' n M A) : Seen m c t n M A := by
  intro hd r
  have e : row t' r = row t r := Fin.ext (by simp only [row, h])
  have := H hd r
  simp only [e] at this
  exact this

/-- After every point but a run's last, the carried arrays have seen the keys of the run's points so far. -/
theorem seen_at (hf : Fin3 m c) : ∀ (k : ℕ) (t : Fin grid0.N), t.val % 4 = k → k < 3 →
    Seen m c t (256 + 2048 * k + 2048) (outsAt0 m c t.val t.isLt).2.2 (outsAt0 m c t.val t.isLt).2.1 := by
  intro k
  induction k with
  | zero =>
    intro t ht _
    have H := seen_lat m c hf t _ _ (by rw [ht]; exact seen_ctx m c hf t _ _ (seen_start m c t))
    rw [stepA_m m c t ht (by omega), stepA_a m c t ht (by omega)]
    rw [ht] at H
    exact H
  | succ k ih =>
    intro t ht hk
    have hp : t.val - 1 < grid0.N := Nat.lt_of_le_of_lt (Nat.sub_le _ _) t.isLt
    have H0 := seen_prev m c t ⟨t.val - 1, hp⟩ (by show (t.val - 1) / 4 = _; omega) _ _ _
      (ih ⟨t.val - 1, hp⟩ (by show (t.val - 1) % 4 = k; omega) (by omega))
    have H := seen_lat m c hf t _ _ (by rw [ht, show 256 + 2048 * (k + 1) = 256 + 2048 * k + 2048 by ring]; exact H0)
    rw [stepB_m m c t (by omega) (by omega), stepB_a m c t (by omega) (by omega)]
    rw [ht] at H
    exact H

/-- At a run's last point the accumulator has seen every key. -/
theorem seen_last (hf : Fin3 m c) (t : Fin grid0.N) (ht : t.val % 4 = 3) :
    ∃ M, Seen m c t 8448 M (GA (n := 2048) (iblk m c 0 t) (iblk m c 3 t) (iblk m c 4 t)
      (outsAt0 m c (t.val - 1) (Nat.lt_of_le_of_lt (Nat.sub_le _ _) t.isLt)).2.2 (outsAt0 m c (t.val - 1) (Nat.lt_of_le_of_lt (Nat.sub_le _ _) t.isLt)).2.1) := by
  have hp : t.val - 1 < grid0.N := Nat.lt_of_le_of_lt (Nat.sub_le _ _) t.isLt
  have H0 := seen_prev m c t ⟨t.val - 1, hp⟩ (by show (t.val - 1) / 4 = _; omega) _ _ _
    (seen_at m c hf 2 ⟨t.val - 1, hp⟩ (by show (t.val - 1) % 4 = 2; omega) (by omega))
  have H := seen_lat m c hf t _ _ (by rw [ht]; exact H0)
  rw [ht] at H
  exact ⟨_, H⟩
end Cert.Att
end
-- ==== Proof.AttKernel.lean ====
module

public import proofs.«01_k».proof.Proof.AttInv
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Att

open Idealize.ShloMosaic Idealize.ShloMosaic.TcCoe Idealize.SL.Sem Cert.KernelIdeal Cert.KernelIdeal.Gen Cert.KernelIdeal.Value

/-- Key `J`'s values. -/
def valD (x4 : S4x256x8x64.Idx → EReal) (x5 : S4x8192x8x64.Idx → EReal) (b : Fin 4) (h : Fin 8) (d : Fin 64) (J : ℕ) : EReal :=
  if hJ : J < 256 then x4 (ix4 b ⟨J, hJ⟩ h d) else if hJ : J - 256 < 8192 then x5 (ix4 b ⟨J - 256, hJ⟩ h d) else 0

/-- The attention of a latent row, one head's output column: the values of all keys weighted by the softmax of the scores. -/
def attn (x1 : S4x8192x8x96.Idx → EReal) (x2 : S4x256x8x96.Idx → EReal) (x3 : S4x8192x8x96.Idx → EReal) (x4 : S4x256x8x64.Idx → EReal)
    (x5 : S4x8192x8x64.Idx → EReal) (M : ℝ) (R : Fin 32768) (h : Fin 8) (d : Fin 64) : EReal :=
  ∑ J : Fin 8448, valD x4 x5 ⟨R.val / 8192, by omega⟩ h d J.val
    * ((Real.exp (tR x1 x2 x3 R h J.val - M) / ∑ i : Fin 8448, Real.exp (tR x1 x2 x3 R h i.val - M) : ℝ) : EReal)

theorem val_even (x4 x5) (b : Fin 4) (h : Fin 8) (hh : h.val % 2 = 0) (l : Fin 128) (hl : l.val < 64) (J : ℕ) (hJ : J < 8448) :
    valU x4 x5 b h l J = valD x4 x5 b h ⟨l.val, hl⟩ J := by
  unfold valU valD wC wL
  by_cases h0 : J < 256
  · rw [dif_pos h0, dif_pos h0, if_pos hh, dif_pos hl]; blk_ext
  · have h2 : J - 256 < 8192 := by omega
    rw [dif_neg h0, dif_neg h0, dif_pos h2, dif_pos h2, if_pos hh, dif_pos hl]; blk_ext

theorem val_odd (x4 x5) (b : Fin 4) (h : Fin 8) (hh : ¬ h.val % 2 = 0) (l : Fin 128) (hl : 64 ≤ l.val) (J : ℕ) (hJ : J < 8448) :
    valU x4 x5 b h l J = valD x4 x5 b h ⟨l.val - 64, by omega⟩ J := by
  unfold valU valD wC wL
  by_cases h0 : J < 256
  · rw [dif_pos h0, dif_pos h0, if_neg hh, dif_pos hl]; blk_ext
  · have h2 : J - 256 < 8192 := by omega
    rw [dif_neg h0, dif_neg h0, dif_pos h2, dif_pos h2, if_neg hh, dif_pos hl]; blk_ext

theorem one_even (x4 x5) (b : Fin 4) (h : Fin 8) (hh : h.val % 2 = 0) (J : ℕ) (hJ : J < 8448) : valU x4 x5 b h 64 J = 1 := by
  unfold valU wC wL
  by_cases h0 : J < 256
  · rw [dif_pos h0, if_pos hh]; rfl
  · rw [dif_neg h0, dif_pos (by omega), if_pos hh]; rfl

theorem one_odd (x4 x5) (b : Fin 4) (h : Fin 8) (hh : ¬ h.val % 2 = 0) (J : ℕ) (hJ : J < 8448) : valU x4 x5 b h 0 J = 1 := by
  unfold valU wC wL
  by_cases h0 : J < 256
  · rw [dif_pos h0, if_neg hh]; rfl
  · rw [dif_neg h0, dif_pos (by omega), if_neg hh]; rfl

/-- The quotient of a value lane and the ones lane of an accumulator that has seen every key. -/
theorem quot_range (s t : ℕ → ℝ) (v w : ℕ → EReal) (u : Fin 8448 → EReal) (r M : ℝ) (hst : ∀ J, s J * Real.log 2 = t J)
    (hv : ∀ J : Fin 8448, v J.val = u J) (hw : ∀ J : Fin 8448, w J.val = 1) :
    Ideal.div (∑ J ∈ Finset.range 8448, ((Real.rpow 2 (s J - r) : ℝ) : EReal) * v J) (∑ J ∈ Finset.range 8448, ((Real.rpow 2 (s J - r) : ℝ) : EReal) * w J)
      = ∑ J : Fin 8448, u J * ((Real.exp (t J.val - M) / ∑ i : Fin 8448, Real.exp (t i.val - M) : ℝ) : EReal) := by
  have e1 : ∑ J ∈ Finset.range 8448, ((Real.rpow 2 (s J - r) : ℝ) : EReal) * v J = ∑ J : Fin 8448, ((Real.rpow 2 (s J.val - r) : ℝ) : EReal) * u J :=
    (Finset.sum_range _).trans (Finset.sum_congr rfl fun J _ => by rw [hv])
  have e2 : ∑ J ∈ Finset.range 8448, ((Real.rpow 2 (s J - r) : ℝ) : EReal) * w J = ∑ J : Fin 8448, ((Real.rpow 2 (s J.val - r) : ℝ) : EReal) * 1 :=
    (Finset.sum_range _).trans (Finset.sum_congr rfl fun J _ => by rw [hw])
  rw [e1, e2]
  exact quot (fun J : Fin 8448 => s J.val) (fun J => t J.val) u r M (fun J => hst _)

variable (m : (ℓ : Loc nD τ sig) → Buf (Elt Ideal) ℓ) (c : Dev nD)

/-- What the kernel leaves in a latent row and one head's column. -/
theorem kernel_at (hf : Fin3 m c) (M : ℝ) (R : Fin 32768) (h : Fin 8) (d : Fin 64) :
    Cert.KernelIdeal.Value.G5 m c (ix2 R ⟨64 * h.val + d.val, by omega⟩) = attn (a1 m c) (a2 m c) (a3 m c) (a4 m c) (a5 m c) M R h d := by
  have hp : 4 * (R.val / 1024) + 3 < grid0.N := lt_of_lt_of_eq (by omega) N_0.symm
  have hpt : pt5Of (ix2 R (⟨64 * h.val + d.val, by omega⟩ : Fin 512)) = 4 * (R.val / 1024) + 3 := by
    show 4 * (1 * (R.val / 1024 - 0) + 1 * ((64 * h.val + d.val) / 512 - 0)) + 3 = _
    omega
  have hloc : loc5Of (ix2 R (⟨64 * h.val + d.val, by omega⟩ : Fin 512)) = ix2 (⟨R.val % 1024, by omega⟩ : Fin 1024) (⟨64 * h.val + d.val, by omega⟩ : Fin 512) := by
    funext a; apply Fin.ext
    fin_cases a
    · rfl
    · show (64 * h.val + d.val) % 512 = 64 * h.val + d.val; omega
  have hG : Cert.KernelIdeal.Value.G5 m c (ix2 R (⟨64 * h.val + d.val, by omega⟩ : Fin 512))
      = (outsAt0 m c (4 * (R.val / 1024) + 3) hp).1 (ix2 (⟨R.val % 1024, by omega⟩ : Fin 1024) (⟨64 * h.val + d.val, by omega⟩ : Fin 512)) := by
    unfold Cert.KernelIdeal.Value.G5
    rw [dif_pos (lt_of_eq_of_lt hpt hp), hloc, ← outsAt0_sweep m c _ (lt_of_eq_of_lt hpt hp)]
    have : ∀ (n : ℕ) (hn : n < grid0.N) (e : n = 4 * (R.val / 1024) + 3), outsAt0 m c n hn = outsAt0 m c (4 * (R.val / 1024) + 3) hp := by
      intro n hn e; subst e; rfl
    rw [this _ _ hpt]
  rw [hG]
  set t : Fin grid0.N := ⟨4 * (R.val / 1024) + 3, hp⟩ with htd
  have ht3 : t.val % 4 = 3 := by show (4 * (R.val / 1024) + 3) % 4 = 3; omega
  obtain ⟨M0, H⟩ := seen_last m c hf t ht3
  refine (congrFun (stepC_o m c t (by omega) ht3) _).trans ?_
  generalize GA (n := 2048) (iblk m c 0 t) (iblk m c 3 t) (iblk m c 4 t) _ _ = acc at H ⊢
  obtain ⟨a, -, ha⟩ := H h ⟨R.val % 1024, by omega⟩
  have hrow : row t ⟨R.val % 1024, by omega⟩ = R := Fin.ext (by show 1024 * ((4 * (R.val / 1024) + 3) / 4) + R.val % 1024 = R.val; omega)
  simp only [hrow] at ha
  have hl2 : Real.log 2 ≠ 0 := ne_of_gt (Real.log_pos (by norm_num))
  have hst : ∀ J, tR (a1 m c) (a2 m c) (a3 m c) R h J / Real.log 2 * Real.log 2 = tR (a1 m c) (a2 m c) (a3 m c) R h J := fun J => div_mul_cancel₀ _ hl2
  show fin2 (slab (ev ⟨(64 * h.val + d.val) / 128, _⟩) acc) (slab (od ⟨(64 * h.val + d.val) / 128, _⟩) acc) ⟨R.val % 1024, _⟩ ⟨(64 * h.val + d.val) % 128, _⟩ = _
  unfold fin2
  by_cases hh : h.val % 2 = 0
  · have e : ev ⟨(64 * h.val + d.val) / 128, by omega⟩ = h := Fin.ext (by show 2 * ((64 * h.val + d.val) / 128) = h.val; omega)
    have el : (⟨(64 * h.val + d.val) % 128, by omega⟩ : Fin 128) = ⟨d.val, by omega⟩ := Fin.ext (by show (64 * h.val + d.val) % 128 = d.val; omega)
    rw [if_pos (by show (64 * h.val + d.val) % 128 < 64; omega), e, el]
    show Ideal.div (acc (ix3 h ⟨R.val % 1024, _⟩ ⟨d.val, _⟩)) (acc (ix3 h ⟨R.val % 1024, _⟩ 64)) = _
    rw [ha, ha]
    exact quot_range _ _ _ _ _ a M hst (fun J => val_even _ _ _ h hh _ d.isLt _ J.isLt) (fun J => one_even _ _ _ h hh _ J.isLt)
  · have e : od ⟨(64 * h.val + d.val) / 128, by omega⟩ = h := Fin.ext (by show 2 * ((64 * h.val + d.val) / 128) + 1 = h.val; omega)
    have el : (⟨(64 * h.val + d.val) % 128, by omega⟩ : Fin 128) = ⟨64 + d.val, by omega⟩ := Fin.ext (by show (64 * h.val + d.val) % 128 = 64 + d.val; omega)
    rw [if_neg (by show ¬ (64 * h.val + d.val) % 128 < 64; omega), e, el]
    show Ideal.div (acc (ix3 h ⟨R.val % 1024, _⟩ ⟨64 + d.val, _⟩)) (acc (ix3 h ⟨R.val % 1024, _⟩ 0)) = _
    rw [ha, ha]
    refine quot_range _ _ _ _ _ a M hst (fun J => (val_odd _ _ _ h hh _ (by show 64 ≤ 64 + d.val; omega) _ J.isLt).trans ?_) (fun J => one_odd _ _ _ h hh _ J.isLt)
    congr 1; apply Fin.ext; show 64 + d.val - 64 = d.val; omega
end Cert.Att
end
-- ==== Proof.AttRef.lean ====
module

public import proofs.«01_k».proof.Proof.AttKernel
public import proofs.«01_k».proof.Proof.Gen.ReferenceIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Att

open Idealize.ShloMosaic Idealize.ShloMosaic.TcCoe Idealize.SL.Sem Cert.ReferenceIdeal Cert.ReferenceIdeal.Gen

/-- The reference's keys and values, context first. -/
def refK (x2 : FVec Ideal S4x256x8x96 .f32) (x3 : FVec Ideal S4x8192x8x96 .f32) : FVec Ideal S4x8448x8x96 .f32 :=
  concatenate S4x8448x8x96 1 [⟨S4x256x8x96, x2⟩, ⟨S4x8192x8x96, x3⟩] concatenates_S4x256x8x96_S4x8192x8x96_S4x8448x8x96_d1
def refV (x4 : FVec Ideal S4x256x8x64 .f32) (x5 : FVec Ideal S4x8192x8x64 .f32) : FVec Ideal S4x8448x8x64 .f32 :=
  concatenate S4x8448x8x64 1 [⟨S4x256x8x64, x4⟩, ⟨S4x8192x8x64, x5⟩] concatenates_S4x256x8x64_S4x8192x8x64_S4x8448x8x64_d1

/-- The reference's scaled scores. -/
def refS (x1 : FVec Ideal S4x8192x8x96 .f32) (k : FVec Ideal S4x8448x8x96 .f32) : FVec Ideal S4x8x8192x8448 .f32 :=
  mulf (Host.dotGeneral dot_S4x8192x8x96_S4x8448x8x96_S4x8x8192x8448_3_3_1_1_02_02 none x1 k) (broadcastInDim S4x8x8192x8448 ![] bcast_S_S4x8x8192x8448 (constant S_ .f32 0x3DD105EC#32))

/-- The reference's row maxima. -/
def refM (s : FVec Ideal S4x8x8192x8448 .f32) : FVec Ideal S4x8x8192 .f32 :=
  maximumf (broadcastInDim S4x8x8192 ![] bcast_S_S4x8x8192 (constant S_ .f32 0xFF800000#32)) (Host.reduce FloatOps.maximumf s (constant S_ .f32 0xFF800000#32) reducesTo_S4x8x8192x8448_S4x8x8192_d3 h_S_)

/-- A row quantity spread over the row. -/
def spread (y : FVec Ideal S4x8x8192 .f32) : FVec Ideal S4x8x8192x8448 .f32 :=
  broadcastInDim S4x8x8192x8448 ![0, 1, 2, 3] bcast_S4x8x8192x1_S4x8x8192x8448_0_1_2_3 (broadcastInDim S4x8x8192x1 ![0, 1, 2] bcast_S4x8x8192_S4x8x8192x1_0_1_2 y)

/-- The reference's exponentials. -/
def refE (s : FVec Ideal S4x8x8192x8448 .f32) : FVec Ideal S4x8x8192x8448 .f32 := Host.exp (subf s (spread (refM s)))

/-- The reference's weights. -/
def refP (e : FVec Ideal S4x8x8192x8448 .f32) : FVec Ideal S4x8x8192x8448 .f32 :=
  Host.divf e (spread (Host.reduceAdd e (constant S_ .f32 0x00000000#32) reducesTo_S4x8x8192x8448_S4x8x8192_d3 h_S_))

/-- The reference's result. -/
def refO (v : FVec Ideal S4x8448x8x64 .f32) (p : FVec Ideal S4x8x8192x8448 .f32) : FVec Ideal S32768x512 .bf16 :=
  truncf .bf16 (shapeCast _ (transpose S4x8192x8x64 [0, 3, 1, 2] (Host.dotGeneral dot_S4x8448x8x64_S4x8x8192x8448_S4x8x64x8192_1_3_3_2_02_01 none v p) transposes_S4x8x64x8192_S4x8192x8x64_0_3_1_2) shapeCasts_S4x8192x8x64_S32768x512) bitsLt_bf16_f32

theorem refK_at (x2 x3) (b : Fin 4) (J : Fin 8448) (h : Fin 8) (a : Fin 96) : refK x2 x3 (ix4 b J h a)
    = if hJ : J.val < 256 then x2 (ix4 b ⟨J.val, hJ⟩ h a) else x3 (ix4 b ⟨J.val - 256, by omega⟩ h a) := by
  pointwise [refK]

theorem refV_at (x4 x5) (b : Fin 4) (J : Fin 8448) (h : Fin 8) (d : Fin 64) : refV x4 x5 (ix4 b J h d) = valD x4 x5 b h d J.val := by
  pointwise [refV]
  unfold valD
  by_cases hJ : J.val < 256
  · rw [dif_pos hJ, dif_pos hJ]
  · rw [dif_neg hJ, dif_neg hJ, dif_pos (by omega)]

theorem refS_at (x1 k) (b : Fin 4) (h : Fin 8) (q : Fin 8192) (J : Fin 8448) : refS x1 k (ix4 b h q J)
    = (∑ a : Fin 96, x1 (ix4 b q h a) * k (ix4 b J h a)) * Ideal.ofBits FTy.f32 1037108716#32 := by
  pointwise [refS]

theorem spread_at (y) (b : Fin 4) (h : Fin 8) (q : Fin 8192) (J : Fin 8448) : spread y (ix4 b h q J) = y (ix3 b h q) := by
  pointwise [spread]

theorem refO_at (v p) (R : Fin 32768) (h : Fin 8) (d : Fin 64) : refO v p (ix2 R ⟨64 * h.val + d.val, by omega⟩)
    = ∑ J : Fin 8448, v (ix4 ⟨R.val / 8192, by omega⟩ J h d) * p (ix4 ⟨R.val / 8192, by omega⟩ h ⟨R.val % 8192, by omega⟩ J) := by
  pointwise [refO]
end Cert.Att
end
-- ==== Proof.AttRefMath.lean ====
module

public import proofs.«01_k».proof.Proof.AttRef
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Att

open Idealize.ShloMosaic Idealize.ShloMosaic.TcCoe Idealize.SL.Sem Cert.ReferenceIdeal Cert.ReferenceIdeal.Gen

/-- The maximum along the last axis, read at an index. -/
theorem refMax_at {n0 n1 n2 n3 : ℕ} (s : FVec Ideal ⟨4, ![n0, n1, n2, n3]⟩ .f32) (z : FVec Ideal ⟨0, ![]⟩ .f32)
    (h : (⟨4, ![n0, n1, n2, n3]⟩ : Shape).ReducesTo [3] ⟨3, ![n0, n1, n2]⟩) (hu : 0 < (⟨0, ![]⟩ : Shape).numel) (b : Fin n0) (c : Fin n1) (q : Fin n2) :
    Host.reduce (FloatOps.maximumf (F := Ideal) (φ := .f32)) s z h hu (ix3 b c q) = Finset.univ.fold max (z (Shape.Idx.first hu)) (fun k : Fin n3 => s (ix4 b c q k)) :=
  (Host.reduce_eq_fold (FloatOps.maximumf (F := Ideal) (φ := .f32)) s z h hu (ix3 b c q)).trans
    (h.fold_fiber_r4_a3 (ix3 b c q) (FloatOps.maximumf (F := Ideal) (φ := .f32)) _ s)

/-- The sum along the last axis, read at an index. -/
theorem refSum_at {n0 n1 n2 n3 : ℕ} (s : FVec Ideal ⟨4, ![n0, n1, n2, n3]⟩ .f32) (z : FVec Ideal ⟨0, ![]⟩ .f32)
    (h : (⟨4, ![n0, n1, n2, n3]⟩ : Shape).ReducesTo [3] ⟨3, ![n0, n1, n2]⟩) (hu : 0 < (⟨0, ![]⟩ : Shape).numel) (b : Fin n0) (c : Fin n1) (q : Fin n2) :
    (Host.reduceAdd s z h hu (ix3 b c q) : EReal) = z (Shape.Idx.first hu) + ∑ k : Fin n3, s (ix4 b c q k) :=
  Ideal.hostReduceAdd_r4_a3 h s _ (ix3 b c q)

/-- The maximum of a non-empty row of real numbers is real. -/
theorem fold_real {n : ℕ} (j0 : Fin n) (w : EReal) (hw : w = ⊥) (s : Fin n → ℝ) (f : Fin n → EReal) (hf : ∀ j, f j = (s j : EReal)) :
    ∃ r : ℝ, max w (Finset.fold max w f Finset.univ) = (r : EReal) := by
  have hlt : max w (Finset.fold max w f Finset.univ) < ⊤ := by
    refine max_lt (by rw [hw]; exact bot_lt_top) ?_
    rw [Finset.fold_max_lt]
    exact ⟨by rw [hw]; exact bot_lt_top, fun j _ => by rw [hf]; exact EReal.coe_lt_top _⟩
  have hgt : ⊥ < max w (Finset.fold max w f Finset.univ) := by
    refine lt_max_of_lt_right ?_
    rw [Finset.lt_fold_max]
    exact Or.inr ⟨j0, Finset.mem_univ _, by rw [hf]; exact EReal.bot_lt_coe _⟩
  exact ⟨_, (EReal.coe_toReal hlt.ne hgt.ne').symm⟩

theorem max_at {s : Shape} (x y : FVec Ideal s .f32) (i : s.Idx) : maximumf x y i = max (x i) (y i) := rfl

theorem word_at {t : Shape} (w : BitVec 32) (h : S_.BroadcastsInDim t ![]) (i : t.Idx) :
    broadcastInDim t ![] h (constant (F := Ideal) S_ .f32 w) i = Ideal.ofBits FTy.f32 w := rfl

theorem refM_real (s : FVec Ideal S4x8x8192x8448 .f32) (b : Fin 4) (h : Fin 8) (q : Fin 8192) (t : Fin 8448 → ℝ)
    (hs : ∀ J, s (ix4 b h q J) = (t J : EReal)) : ∃ M : ℝ, refM s (ix3 b h q) = (M : EReal) := by
  obtain ⟨M, hM⟩ := fold_real ⟨0, by omega⟩ (Ideal.ofBits FTy.f32 4286578688#32) negInf t (fun J => s (ix4 b h q J)) hs
  refine ⟨M, ?_⟩
  unfold refM
  rw [max_at, word_at, refMax_at]
  exact hM

theorem refE_at (s : FVec Ideal S4x8x8192x8448 .f32) (b : Fin 4) (h : Fin 8) (q : Fin 8192) (J : Fin 8448) (t M : ℝ)
    (hs : s (ix4 b h q J) = (t : EReal)) (hM : refM s (ix3 b h q) = (M : EReal)) : refE s (ix4 b h q J) = (Real.exp (t - M) : EReal) := by
  have e : refE s (ix4 b h q J) = Ideal.exp (s (ix4 b h q J) - spread (refM s) (ix4 b h q J)) := rfl
  rw [e, spread_at, hs, hM, ← EReal.coe_sub, Ideal.exp_coe]

theorem refP_at (e : FVec Ideal S4x8x8192x8448 .f32) (b : Fin 4) (h : Fin 8) (q : Fin 8192) (J : Fin 8448) (t : Fin 8448 → ℝ)
    (he : ∀ J, e (ix4 b h q J) = (Real.exp (t J) : EReal)) : refP e (ix4 b h q J) = (Real.exp (t J) / ∑ i, Real.exp (t i) : ℝ) := by
  have e1 : refP e (ix4 b h q J) = Ideal.div (e (ix4 b h q J)) (spread (Host.reduceAdd e (constant S_ .f32 0x00000000#32) reducesTo_S4x8x8192x8448_S4x8x8192_d3 h_S_) (ix4 b h q J)) := rfl
  have e2 : (constant (F := Ideal) S_ .f32 0x00000000#32) (Shape.Idx.first h_S_) = (0 : EReal) := by
    show Ideal.ofBits FTy.f32 0x00000000#32 = 0
    simp [Ideal.ofBits, Ideal.ieee]
  have hp : 0 < ∑ i : Fin 8448, Real.exp (t i) := Finset.sum_pos (fun i _ => Real.exp_pos _) ⟨0, Finset.mem_univ _⟩
  rw [e1, spread_at, refSum_at, e2, zero_add, he, Finset.sum_congr rfl fun k _ => he k, ← coe_sum, Ideal.div_coe hp.ne', ← EReal.coe_mul]
  congr 1; field_simp

theorem refK_real (x2 x3) (h2 : ∀ i, x2 i = ((x2 i).toReal : EReal)) (h3 : ∀ i, x3 i = ((x3 i).toReal : EReal)) (b : Fin 4) (J : Fin 8448) (h : Fin 8) (a : Fin 96) :
    refK x2 x3 (ix4 b J h a) = (keyR x2 x3 b h J.val a : EReal) := by
  rw [refK_at]; unfold keyR
  by_cases hJ : J.val < 256
  · rw [dif_pos hJ, dif_pos hJ]; exact h2 _
  · have h' : J.val - 256 < 8192 := by omega
    rw [dif_neg hJ, dif_neg hJ, dif_pos h']; exact h3 _

theorem refS_real (x1 x2 x3) (h1 : ∀ i, x1 i = ((x1 i).toReal : EReal)) (h2 : ∀ i, x2 i = ((x2 i).toReal : EReal)) (h3 : ∀ i, x3 i = ((x3 i).toReal : EReal))
    (R : Fin 32768) (h : Fin 8) (J : Fin 8448) :
    refS x1 (refK x2 x3) (ix4 ⟨R.val / 8192, by omega⟩ h ⟨R.val % 8192, by omega⟩ J) = (tR x1 x2 x3 R h J.val : EReal) := by
  rw [refS_at, σ_eq]; unfold tR
  rw [EReal.coe_mul, coe_sum]
  refine congrArg (· * (σ : EReal)) (Finset.sum_congr rfl fun a _ => ?_)
  rw [refK_real x2 x3 h2 h3, EReal.coe_mul]
  exact congrArg (· * _) (h1 _)

/-- The reference's result at a query row, a head and a lane: the attention's sum over the keys. -/
theorem ref_at (x1 x2 x3 x4 x5) (h1 : ∀ i, x1 i = ((x1 i).toReal : EReal)) (h2 : ∀ i, x2 i = ((x2 i).toReal : EReal)) (h3 : ∀ i, x3 i = ((x3 i).toReal : EReal))
    (R : Fin 32768) (h : Fin 8) : ∃ M : ℝ, ∀ d : Fin 64,
    refO (refV x4 x5) (refP (refE (refS x1 (refK x2 x3)))) (ix2 R ⟨64 * h.val + d.val, by omega⟩) = attn x1 x2 x3 x4 x5 M R h d := by
  obtain ⟨M, hM⟩ := refM_real _ _ h _ (fun J => tR x1 x2 x3 R h J.val) (fun J => refS_real x1 x2 x3 h1 h2 h3 R h J)
  refine ⟨M, fun d => ?_⟩
  rw [refO_at]; unfold attn
  refine Finset.sum_congr rfl fun J _ => ?_
  rw [refV_at, refP_at _ _ _ _ J (fun J => tR x1 x2 x3 R h J.val - M) (fun K => refE_at _ _ _ _ K _ M (refS_real x1 x2 x3 h1 h2 h3 R h K) hM)]
end Cert.Att
end
-- ==== Proof.AttFinal.lean ====
module

public import proofs.«01_k».proof.Proof.AttRefMath
public import proofs.«01_k».proof.Defs
public import proofs.«01_k».proof.Proof.Gen.Pre_finite_queries_and_keys
public import Idealize.ShloMosaic.Lib.ReduceAll
public import Idealize.ShloMosaic.Lib.KernelVsHost
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Att

open Idealize.ShloMosaic Idealize.ShloMosaic.TcCoe Idealize.SL.Sem Cert.KernelIdeal Cert.KernelIdeal.Gen

/-- An absolute value that compares below plus infinity is that of a real number. -/
theorem real_of_lt (x : EReal) (e : FloatOps.cmpf (F := Ideal) (φ := .f32) .olt (FloatOps.hostAbsf x) (FloatOps.ofBits (F := Ideal) .f32 0x7F800000#32) = 1#1) :
    x = (x.toReal : EReal) := by
  induction x with
  | bot => exfalso; revert e; simp [FloatOps.cmpf, FloatOps.hostAbsf, FloatOps.ofBits, Ideal.cmp, Ideal.ofBits, Ideal.ieee]
  | top => exfalso; revert e; simp [FloatOps.cmpf, FloatOps.hostAbsf, FloatOps.ofBits, Ideal.cmp, Ideal.ofBits, Ideal.ieee]
  | coe r => rfl

/-- The printed test that all entries are finite, read back: every entry is real. -/
theorem all_real {s : Shape} {axes : List (Fin s.rank)} {u : Shape} [Subsingleton u.Idx] (x : FVec Ideal s .f32) {dm : Fin u.rank → Fin s.rank} (hb : u.BroadcastsInDim s dm) (hr : s.ReducesTo axes u) (hu : 0 < u.numel) (j : u.Idx)
    (e : Host.reduce IntOp.andi (cmpf .olt (Host.absf x) (broadcastInDim s dm hb (constant u .f32 0x7F800000#32))) (constantI u 1 1#1) hr hu j = 1#1) (i : s.Idx) :
    (x i : EReal) = ((x i : EReal).toReal : EReal) :=
  real_of_lt _ (Host.reduce_andi_all _ _ _ _ j e i)

/-- The precondition says that the queries and the keys are real. -/
theorem fin3_of (m : (ℓ : Loc nD τ sig) → Buf (Elt Ideal) ℓ) (c : Dev nD) (h : Cert.Pre_KernelIdeal_finite_queries_and_keys m) : Fin3 m c := by
  have e := congrFun (h c) (fun a => a.elim0)
  obtain ⟨e12, e3⟩ := IntOp.andi_eq_one.1 e
  obtain ⟨e1, e2⟩ := IntOp.andi_eq_one.1 e12
  exact ⟨fun i => all_real _ _ _ _ _ e1 i, fun i => all_real _ _ _ _ _ e2 i, fun i => all_real _ _ _ _ _ e3 i⟩

/-- The kernel's result is the reference's term over the same arguments. -/
theorem final (m : (ℓ : Loc nD τ sig) → Buf (Elt Ideal) ℓ) (c : Dev nD) (h : Cert.Pre_KernelIdeal_finite_queries_and_keys m) :
    Cert.KernelIdeal.Value.G5 m c = refO (refV (a4 m c) (a5 m c)) (refP (refE (refS (a1 m c) (refK (a2 m c) (a3 m c))))) := by
  have hf := fin3_of m c h
  funext i
  obtain ⟨R, C, rfl⟩ : ∃ (R : Fin 32768) (C : Fin 512), i = ix2 R C := ⟨i 0, i 1, by funext a; match a with | ⟨0, _⟩ => rfl | ⟨1, _⟩ => rfl⟩
  have hC : C = ⟨64 * (⟨C.val / 64, by omega⟩ : Fin 8).val + (⟨C.val % 64, by omega⟩ : Fin 64).val, by dsimp only; omega⟩ := Fin.ext (by dsimp only; omega)
  obtain ⟨M, hM⟩ := ref_at (a1 m c) (a2 m c) (a3 m c) (a4 m c) (a5 m c) hf.1 hf.2.1 hf.2.2 R ⟨C.val / 64, by omega⟩
  have := (kernel_at m c hf M R ⟨C.val / 64, by omega⟩ ⟨C.val % 64, by omega⟩).trans (hM ⟨C.val % 64, by omega⟩).symm
  rw [hC]; exact this

/-- The same, with the other program's copies of the keys and of the values. -/
theorem final_of (m : (ℓ : Loc nD τ sig) → Buf (Elt Ideal) ℓ) (c : Dev nD) (h : Cert.Pre_KernelIdeal_finite_queries_and_keys m) (x2 x3 x4 x5)
    (e2 : x2 = a2 m c) (e3 : x3 = a3 m c) (e4 : x4 = a4 m c) (e5 : x5 = a5 m c) :
    refO (refV x4 x5) (refP (refE (refS (a1 m c) (refK x2 x3)))) = Cert.KernelIdeal.Value.G5 m c := by
  subst e2 e3 e4 e5
  exact (final m c h).symm
end Cert.Att
end
-- ==== Proof.ProjBody.lean ====
module

public import proofs.«01_k».proof.Proof.Gen.Kernel2Ideal.Skeleton
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proj

open Idealize.ShloMosaic Idealize.ShloMosaic.TcCoe Idealize.SL.Sem Cert.Kernel2Ideal Cert.Kernel2Ideal.Gen

/-- The mean of a row of 1024 entries. -/
def meanR (z : Fin 1024 → EReal) : EReal := Ideal.div (∑ k, z k) (Ideal.ofBits FTy.f32 0x44800000#32)

/-- A row with its mean taken off. -/
def cenR (z : Fin 1024 → EReal) (k : Fin 1024) : EReal := z k - meanR z

/-- The layer normalisation of a row. -/
def lnR (z : Fin 1024 → EReal) (k : Fin 1024) : EReal :=
  cenR z k * Ideal.rsqrt (meanR (fun k => cenR z k * cenR z k) + Ideal.ofBits FTy.f32 0x358637BD#32)

/-- The residual sum of a row: the scaled input and the gated sum of the two experts' rows. -/
def resR (x g y0 y1 : Fin 1024 → EReal) (w0 w1 : EReal) (k : Fin 1024) : EReal :=
  Ideal.ofBits FTy.f32 0x3FD744FD#32 * x k + g k * (y0 k * w0 + y1 k * w1)

/-- A normalised row scaled and shifted. -/
def affR (z lg lb : Fin 1024 → EReal) (k : Fin 1024) : EReal := lnR z k * lg k + lb k

/-- A normalised row modulated. -/
def modR (z sc sh : Fin 1024 → EReal) (k : Fin 1024) : EReal := lnR z k * (Ideal.ofBits FTy.f32 0x3F800000#32 + sc k) + sh k

theorem rowSum_at (x : FVec Ideal S512x1024 .f32) (h) (hφ) (hacc) (r : Fin 512) :
    multiReduction .add [1] S512 x 0x00000000#32 h hφ hacc (ix1 r) = (∑ k : Fin 1024, x (ix2 r k) : EReal) := by
  pointwise

/-- The mean of every row, spread over the row. -/
def meanV (v : FVec Ideal S512x1024 .f32) : FVec Ideal S512x1 .f32 :=
  divf (shapeCast S512x1 (multiReduction .add [1] S512 v 0x00000000#32 reduces_S512x1024_S512 (.inl rfl) rfl) shapeCasts_S512_S512x1) (broadcast S512x1 (Scalar.ofBits .f32 0x44800000#32))

def cenV (v : FVec Ideal S512x1024 .f32) : FVec Ideal S512x1024 .f32 := subf v (broadcastTo S512x1024 (meanV v) broadcasts_S512x1_S512x1024)

def lnV (v : FVec Ideal S512x1024 .f32) : FVec Ideal S512x1024 .f32 :=
  mulf (cenV v) (broadcastTo S512x1024 (rsqrt (addf (meanV (mulf (cenV v) (cenV v))) (broadcast S512x1 (Scalar.ofBits .f32 0x358637BD#32)))) broadcasts_S512x1_S512x1024)

theorem meanV_at (v) (r : Fin 512) : meanV v (ix2 r 0) = meanR fun k => v (ix2 r k) := by
  pointwise [meanV]; rfl

theorem cenV_at (v) (r : Fin 512) (l : Fin 1024) : cenV v (ix2 r l) = cenR (fun k => v (ix2 r k)) l := by
  have e : cenV v (ix2 r l) = v (ix2 r l) - meanV v (ix2 r 0) := by pointwise [cenV]
  rw [e, meanV_at]; rfl

theorem lnV_at (v) (r : Fin 512) (l : Fin 1024) : lnV v (ix2 r l) = lnR (fun k => v (ix2 r k)) l := by
  have e : lnV v (ix2 r l) = cenV v (ix2 r l) * Ideal.rsqrt (meanV (mulf (cenV v) (cenV v)) (ix2 r 0) + Ideal.ofBits FTy.f32 0x358637BD#32) := by
    pointwise [lnV]
  rw [e, meanV_at, cenV_at]
  have e2 : (fun k => mulf (cenV v) (cenV v) (ix2 r k)) = fun k => cenR (fun k => v (ix2 r k)) k * cenR (fun k => v (ix2 r k)) k := by
    funext k
    have : mulf (cenV v) (cenV v) (ix2 r k) = cenV v (ix2 r k) * cenV v (ix2 r k) := rfl
    rw [this, cenV_at]
  rw [e2]; rfl

/-- The residual sums of a block. -/
def resV (v0 : Vec Ideal S512x128 .f32) (v2 v8 : Vec Ideal S512x1024 .bf16) (v15 : Vec Ideal S512x1024 .f32) (v19 : Vec Ideal S1x1x1024 .f32) : FVec Ideal S512x1024 .f32 :=
  addf (mulf (broadcast S512x1024 (Scalar.ofBits .f32 0x3FD744FD#32)) (shapeCast S512x1024 v15 shapeCasts_S512x1024_S512x1024)) (mulf (broadcastTo S512x1024 (shapeCast S1x1024 v19 shapeCasts_S1x1x1024_S1x1024) broadcasts_S1x1024_S512x1024) (addf (mulf (extf .f32 v2 bitsLt_bf16_f32) (broadcastTo S512x1024 (extractStridedSlice S512x1 ![0, 0] v0 slices_S512x128_o0_0_S512x1) broadcasts_S512x1_S512x1024)) (mulf (extf .f32 v8 bitsLt_bf16_f32) (broadcastTo S512x1024 (extractStridedSlice S512x1 ![0, 1] v0 slices_S512x128_o0_1_S512x1) broadcasts_S512x1_S512x1024))))

theorem resV_at (v0 v2 v8 v15 v19) (r : Fin 512) (l : Fin 1024) : resV v0 v2 v8 v15 v19 (ix2 r l)
    = resR (fun k => v15 (ix2 r k)) (fun k => v19 (ix3 0 0 k)) (fun k => v2 (ix2 r k)) (fun k => v8 (ix2 r k)) (v0 (ix2 r 0)) (v0 (ix2 r 1)) l := by
  pointwise [resV]; rfl

theorem pay2_eq (v0 v2 v8 v15 v19) : k0_pay2 (F := Ideal) v0 v2 v8 v15 v19 = lnV (resV v0 v2 v8 v15 v19) := rfl

theorem pay2_at (v0 v2 v8 v15 v19) (r : Fin 512) (l : Fin 1024) : k0_pay2 (F := Ideal) v0 v2 v8 v15 v19 (ix2 r l)
    = lnR (resR (fun k => v15 (ix2 r k)) (fun k => v19 (ix3 0 0 k)) (fun k => v2 (ix2 r k)) (fun k => v8 (ix2 r k)) (v0 (ix2 r 0)) (v0 (ix2 r 1))) l := by
  rw [pay2_eq, lnV_at]
  exact congrArg (fun z => lnR z l) (funext fun k => resV_at v0 v2 v8 v15 v19 r k)

theorem pay3_at (v39 v40 v44) (r : Fin 512) (l : Fin 1024) : k0_pay4 (F := Ideal) v39 (k0_pay3 v40) v44 (ix2 r l) = (v39 (ix2 r l) * v40 (ix2 0 l) + v44 (ix2 0 l) : EReal) := by
  pointwise [k0_pay4, k0_pay3]

def modV (y : FVec Ideal S512x1024 .f32) (v65 v71 : Vec Ideal S1x1x1024 .f32) : FVec Ideal S512x1024 .bf16 :=
  truncf .bf16 (addf (mulf y (broadcastTo S512x1024 (addf (broadcast S1x1024 (Scalar.ofBits .f32 0x3F800000#32)) (shapeCast S1x1024 v65 shapeCasts_S1x1x1024_S1x1024)) broadcasts_S1x1024_S512x1024)) (broadcastTo S512x1024 (shapeCast S1x1024 v71 shapeCasts_S1x1x1024_S1x1024) broadcasts_S1x1024_S512x1024)) bitsLt_bf16_f32

theorem modV_at (y v65 v71) (r : Fin 512) (l : Fin 1024) : modV y v65 v71 (ix2 r l) = (y (ix2 r l) * (Ideal.ofBits FTy.f32 0x3F800000#32 + v65 (ix3 0 0 l)) + v71 (ix3 0 0 l) : EReal) := by
  pointwise [modV]

theorem pay4_eq (v39 v40 v44 v65 v71) : k0_pay5 (F := Ideal) v39 (k0_pay3 v40) v44 v65 v71 = modV (lnV (k0_pay4 v39 (k0_pay3 v40) v44)) v65 v71 := rfl

theorem pay4_at (v39 v40 v44 v65 v71) (r : Fin 512) (l : Fin 1024) : k0_pay5 (F := Ideal) v39 (k0_pay3 v40) v44 v65 v71 (ix2 r l)
    = modR (fun k => k0_pay4 (F := Ideal) v39 (k0_pay3 v40) v44 (ix2 r k)) (fun k => v65 (ix3 0 0 k)) (fun k => v71 (ix3 0 0 k)) l := by
  rw [pay4_eq, modV_at, lnV_at]; rfl

/-- One column chunk of the projection. -/
theorem pay1_at (h w b) (r : Fin 512) (j : Fin 512) : k0_pay1 (F := Ideal) h w b (ix2 r j) = (∑ k : Fin 1024, h (ix2 r k) * w (ix2 k j) + b (ix2 0 j) : EReal) := by
  pointwise [k0_pay1]
end Cert.Proj
end
-- ==== Proof.ProjRows.lean ====
module

public import proofs.«01_k».proof.Proof.ProjBody
public import proofs.«01_k».proof.Proof.Gen.Reference2Ideal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proj

open Idealize.ShloMosaic Idealize.ShloMosaic.TcCoe Idealize.SL.Sem Cert.Reference2Ideal Cert.Reference2Ideal.Gen

/-- The sum along the last axis, read at an index. -/
theorem hostSum_at {n0 n1 n2 : ℕ} (s : FVec Ideal ⟨3, ![n0, n1, n2]⟩ .f32) (z : FVec Ideal ⟨0, ![]⟩ .f32)
    (h : (⟨3, ![n0, n1, n2]⟩ : Shape).ReducesTo [2] ⟨2, ![n0, n1]⟩) (hu : 0 < (⟨0, ![]⟩ : Shape).numel) (b : Fin n0) (q : Fin n1) :
    (Host.reduceAdd s z h hu (ix2 b q) : EReal) = z (Shape.Idx.first hu) + ∑ k : Fin n2, s (ix3 b q k) :=
  Ideal.hostReduceAdd_r3_a2 h s _ (ix2 b q)

theorem zeroWord : (constant (F := Ideal) S_ .f32 0x00000000#32) (Shape.Idx.first h_S_) = (0 : EReal) := by
  show Ideal.ofBits FTy.f32 0x00000000#32 = 0
  simp [Ideal.ofBits, Ideal.ieee]

/-- The mean of every row of the context rows. -/
def meanC (v : FVec Ideal S4x256x1024 .f32) : FVec Ideal S4x256x1 .f32 :=
  Host.divf (broadcastInDim S4x256x1 ![0, 1] bcast_S4x256_S4x256x1_0_1 (Host.reduceAdd v (constant S_ .f32 0x00000000#32) reducesTo_S4x256x1024_S4x256_d2 h_S_)) (broadcastInDim S4x256x1 ![] bcast_S_S4x256x1 (constant S_ .f32 0x44800000#32))

def spreadC (v : FVec Ideal S4x256x1 .f32) : FVec Ideal S4x256x1024 .f32 := broadcastInDim S4x256x1024 ![0, 1, 2] bcast_S4x256x1_S4x256x1024_0_1_2 v

def cenC (v : FVec Ideal S4x256x1024 .f32) : FVec Ideal S4x256x1024 .f32 := subf v (spreadC (meanC v))

def invC (v : FVec Ideal S4x256x1024 .f32) : FVec Ideal S4x256x1 .f32 :=
  Host.rsqrt (addf (meanC (mulf (cenC v) (cenC v))) (broadcastInDim S4x256x1 ![] bcast_S_S4x256x1 (constant S_ .f32 0x358637BD#32)))

/-- The layer normalisation of the context rows. -/
def lnC (v : FVec Ideal S4x256x1024 .f32) : FVec Ideal S4x256x1024 .f32 := mulf (cenC v) (spreadC (invC v))

theorem spreadC_at (v) (b : Fin 4) (q : Fin 256) (k : Fin 1024) : spreadC v (ix3 b q k) = v (ix3 b q 0) := by
  pointwise [spreadC]

theorem upC_at (v : FVec Ideal S4x256 .f32) (b : Fin 4) (q : Fin 256) : broadcastInDim S4x256x1 ![0, 1] bcast_S4x256_S4x256x1_0_1 v (ix3 b q 0) = v (ix2 b q) := by
  pointwise

theorem meanC_at (v) (b : Fin 4) (q : Fin 256) : meanC v (ix3 b q 0) = meanR fun k => v (ix3 b q k) := by
  have e : meanC v (ix3 b q 0) = Ideal.div (broadcastInDim S4x256x1 ![0, 1] bcast_S4x256_S4x256x1_0_1 (Host.reduceAdd v (constant S_ .f32 0x00000000#32) reducesTo_S4x256x1024_S4x256_d2 h_S_) (ix3 b q 0)) (Ideal.ofBits FTy.f32 0x44800000#32) := rfl
  rw [e, upC_at, hostSum_at, zeroWord, zero_add]; rfl

theorem cenC_at (v) (b : Fin 4) (q : Fin 256) (k : Fin 1024) : cenC v (ix3 b q k) = cenR (fun k => v (ix3 b q k)) k := by
  have e : cenC v (ix3 b q k) = v (ix3 b q k) - spreadC (meanC v) (ix3 b q k) := rfl
  rw [e, spreadC_at, meanC_at]; rfl

theorem lnC_at (v) (b : Fin 4) (q : Fin 256) (k : Fin 1024) : lnC v (ix3 b q k) = lnR (fun k => v (ix3 b q k)) k := by
  have e : lnC v (ix3 b q k) = cenC v (ix3 b q k) * spreadC (invC v) (ix3 b q k) := rfl
  have e1 : invC v (ix3 b q 0) = Ideal.rsqrt (meanC (mulf (cenC v) (cenC v)) (ix3 b q 0) + Ideal.ofBits FTy.f32 0x358637BD#32) := rfl
  have e2 : (fun k => mulf (cenC v) (cenC v) (ix3 b q k)) = fun k => cenR (fun k => v (ix3 b q k)) k * cenR (fun k => v (ix3 b q k)) k := by
    funext k
    have : mulf (cenC v) (cenC v) (ix3 b q k) = cenC v (ix3 b q k) * cenC v (ix3 b q k) := rfl
    rw [this, cenC_at]
  rw [e, spreadC_at, e1, meanC_at, cenC_at, e2]; rfl

/-- The mean of every row of the latent rows. -/
def meanL (v : FVec Ideal S4x8192x1024 .f32) : FVec Ideal S4x8192x1 .f32 :=
  Host.divf (broadcastInDim S4x8192x1 ![0, 1] bcast_S4x8192_S4x8192x1_0_1 (Host.reduceAdd v (constant S_ .f32 0x00000000#32) reducesTo_S4x8192x1024_S4x8192_d2 h_S_)) (broadcastInDim S4x8192x1 ![] bcast_S_S4x8192x1 (constant S_ .f32 0x44800000#32))

def spreadL (v : FVec Ideal S4x8192x1 .f32) : FVec Ideal S4x8192x1024 .f32 := broadcastInDim S4x8192x1024 ![0, 1, 2] bcast_S4x8192x1_S4x8192x1024_0_1_2 v

def cenL (v : FVec Ideal S4x8192x1024 .f32) : FVec Ideal S4x8192x1024 .f32 := subf v (spreadL (meanL v))

def invL (v : FVec Ideal S4x8192x1024 .f32) : FVec Ideal S4x8192x1 .f32 :=
  Host.rsqrt (addf (meanL (mulf (cenL v) (cenL v))) (broadcastInDim S4x8192x1 ![] bcast_S_S4x8192x1 (constant S_ .f32 0x358637BD#32)))

/-- The layer normalisation of the latent rows. -/
def lnL (v : FVec Ideal S4x8192x1024 .f32) : FVec Ideal S4x8192x1024 .f32 := mulf (cenL v) (spreadL (invL v))

theorem spreadL_at (v) (b : Fin 4) (q : Fin 8192) (k : Fin 1024) : spreadL v (ix3 b q k) = v (ix3 b q 0) := by
  pointwise [spreadL]

theorem upL_at (v : FVec Ideal S4x8192 .f32) (b : Fin 4) (q : Fin 8192) : broadcastInDim S4x8192x1 ![0, 1] bcast_S4x8192_S4x8192x1_0_1 v (ix3 b q 0) = v (ix2 b q) := by
  pointwise

theorem meanL_at (v) (b : Fin 4) (q : Fin 8192) : meanL v (ix3 b q 0) = meanR fun k => v (ix3 b q k) := by
  have e : meanL v (ix3 b q 0) = Ideal.div (broadcastInDim S4x8192x1 ![0, 1] bcast_S4x8192_S4x8192x1_0_1 (Host.reduceAdd v (constant S_ .f32 0x00000000#32) reducesTo_S4x8192x1024_S4x8192_d2 h_S_) (ix3 b q 0)) (Ideal.ofBits FTy.f32 0x44800000#32) := rfl
  rw [e, upL_at, hostSum_at, zeroWord, zero_add]; rfl

theorem cenL_at (v) (b : Fin 4) (q : Fin 8192) (k : Fin 1024) : cenL v (ix3 b q k) = cenR (fun k => v (ix3 b q k)) k := by
  have e : cenL v (ix3 b q k) = v (ix3 b q k) - spreadL (meanL v) (ix3 b q k) := rfl
  rw [e, spreadL_at, meanL_at]; rfl

theorem lnL_at (v) (b : Fin 4) (q : Fin 8192) (k : Fin 1024) : lnL v (ix3 b q k) = lnR (fun k => v (ix3 b q k)) k := by
  have e : lnL v (ix3 b q k) = cenL v (ix3 b q k) * spreadL (invL v) (ix3 b q k) := rfl
  have e1 : invL v (ix3 b q 0) = Ideal.rsqrt (meanL (mulf (cenL v) (cenL v)) (ix3 b q 0) + Ideal.ofBits FTy.f32 0x358637BD#32) := rfl
  have e2 : (fun k => mulf (cenL v) (cenL v) (ix3 b q k)) = fun k => cenR (fun k => v (ix3 b q k)) k * cenR (fun k => v (ix3 b q k)) k := by
    funext k
    have : mulf (cenL v) (cenL v) (ix3 b q k) = cenL v (ix3 b q k) * cenL v (ix3 b q k) := rfl
    rw [this, cenL_at]
  rw [e, spreadL_at, e1, meanL_at, cenL_at, e2]; rfl

/-- A vector over the columns, spread over all rows. -/
def colsC (g : FVec Ideal S1024 .f32) : FVec Ideal S4x256x1024 .f32 :=
  broadcastInDim S4x256x1024 ![0, 1, 2] bcast_S1x1x1024_S4x256x1024_0_1_2 (broadcastInDim S1x1x1024 ![2] bcast_S1024_S1x1x1024_2 g)
def colsL (g : FVec Ideal S1024 .f32) : FVec Ideal S4x8192x1024 .f32 :=
  broadcastInDim S4x8192x1024 ![0, 1, 2] bcast_S1x1x1024_S4x8192x1024_0_1_2 (broadcastInDim S1x1x1024 ![2] bcast_S1024_S1x1x1024_2 g)
/-- A vector over the columns of each batch, spread over the batch's rows. -/
def batchL (g : FVec Ideal S4x1024 .f32) : FVec Ideal S4x8192x1024 .f32 :=
  broadcastInDim S4x8192x1024 ![0, 1, 2] bcast_S4x1x1024_S4x8192x1024_0_1_2 (broadcastInDim S4x1x1024 ![0, 2] bcast_S4x1024_S4x1x1024_0_2 g)

theorem colsC_at (g) (b : Fin 4) (q : Fin 256) (k : Fin 1024) : colsC g (ix3 b q k) = g (ix1 k) := by pointwise [colsC]
theorem colsL_at (g) (b : Fin 4) (q : Fin 8192) (k : Fin 1024) : colsL g (ix3 b q k) = g (ix1 k) := by pointwise [colsL]
theorem batchL_at (g) (b : Fin 4) (q : Fin 8192) (k : Fin 1024) : batchL g (ix3 b q k) = g (ix2 b k) := by pointwise [batchL]
end Cert.Proj
end
-- ==== Proof.ProjRef.lean ====
module

public import proofs.«01_k».proof.Proof.ProjRows
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proj

open Idealize.ShloMosaic Idealize.ShloMosaic.TcCoe Idealize.SL.Sem Cert.Reference2Ideal Cert.Reference2Ideal.Gen

/-- The two experts' rows, each with its token's weight, summed. -/
def mixV (x2 x3 : FVec Ideal S33792x1024 .f32) (x4 : FVec Ideal S33792x128 .f32) : FVec Ideal S33792x1024 .f32 :=
  addf (mulf x2 (broadcastInDim S33792x1024 ![0, 1] bcast_S33792x1_S33792x1024_0_1 (extractStridedSlice S33792x1 ![0, 0] x4 slices_S33792x128_S33792x1_0_0))) (mulf x3 (broadcastInDim S33792x1024 ![0, 1] bcast_S33792x1_S33792x1024_0_1 (extractStridedSlice S33792x1 ![0, 1] x4 slices_S33792x128_S33792x1_0_1)))

/-- The residual sums of the context rows and of the latent rows. -/
def resC (x0 : FVec Ideal S4x256x1024 .f32) (f : FVec Ideal S33792x1024 .f32) (x6 : FVec Ideal S6144 .f32) : FVec Ideal S4x256x1024 .f32 :=
  addf (mulf (broadcastInDim S4x256x1024 ![] bcast_S_S4x256x1024 (constant S_ .f32 0x3FD744FD#32)) x0) (mulf (colsC (extractStridedSlice S1024 ![5120] x6 slices_S6144_S1024_5120)) (shapeCast _ (extractStridedSlice S1024x1024 ![0, 0] f slices_S33792x1024_S1024x1024_0_0) shapeCasts_S1024x1024_S4x256x1024))
def resL (x1 : FVec Ideal S4x8192x1024 .f32) (f : FVec Ideal S33792x1024 .f32) (x5 : FVec Ideal S4x6144 .f32) : FVec Ideal S4x8192x1024 .f32 :=
  addf (mulf (broadcastInDim S4x8192x1024 ![] bcast_S_S4x8192x1024 (constant S_ .f32 0x3FD744FD#32)) x1) (mulf (batchL (extractStridedSlice S4x1024 ![0, 5120] x5 slices_S4x6144_S4x1024_0_5120)) (shapeCast _ (extractStridedSlice S32768x1024 ![1024, 0] f slices_S33792x1024_S32768x1024_1024_0) shapeCasts_S32768x1024_S4x8192x1024))

def affC (v : FVec Ideal S4x256x1024 .f32) (x7 x8 : FVec Ideal S1024 .f32) : FVec Ideal S4x256x1024 .f32 := addf (mulf (lnC v) (colsC x7)) (colsC x8)
def affL (v : FVec Ideal S4x8192x1024 .f32) (x7 x8 : FVec Ideal S1024 .f32) : FVec Ideal S4x8192x1024 .f32 := addf (mulf (lnL v) (colsL x7)) (colsL x8)

def modC (v : FVec Ideal S4x256x1024 .f32) (x10 : FVec Ideal S6144 .f32) : FVec Ideal S4x256x1024 .f32 :=
  addf (mulf (lnC v) (broadcastInDim S4x256x1024 ![0, 1, 2] bcast_S1x1x1024_S4x256x1024_0_1_2 (addf (broadcastInDim S1x1x1024 ![] bcast_S_S1x1x1024 (constant S_ .f32 0x3F800000#32)) (broadcastInDim S1x1x1024 ![2] bcast_S1024_S1x1x1024_2 (extractStridedSlice S1024 ![1024] x10 slices_S6144_S1024_1024))))) (colsC (extractStridedSlice S1024 ![0] x10 slices_S6144_S1024_0))
def modL (v : FVec Ideal S4x8192x1024 .f32) (x9 : FVec Ideal S4x6144 .f32) : FVec Ideal S4x8192x1024 .f32 :=
  addf (mulf (lnL v) (broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 1024] x9 slices_S4x6144_S4x1024_0_1024))))) (batchL (extractStridedSlice S4x1024 ![0, 0] x9 slices_S4x6144_S4x1024_0_0))

/-- Context rows first, latent rows after them. -/
def both (u : FVec Ideal S4x256x1024 .f32) (v : FVec Ideal S4x8192x1024 .f32) : FVec Ideal S33792x1024 .f32 :=
  concatenate S33792x1024 0 [⟨S1024x1024, shapeCast S1024x1024 u shapeCasts_S4x256x1024_S1024x1024⟩, ⟨S32768x1024, shapeCast S32768x1024 v shapeCasts_S4x8192x1024_S32768x1024⟩] concatenates_S1024x1024_S32768x1024_S33792x1024_d0

/-- The projection of every row. -/
def projV (h : FVec Ideal S33792x1024 .f32) (x11 : FVec Ideal S1024x5536 .f32) (x12 : FVec Ideal S5536 .f32) : FVec Ideal S33792x5536 .f32 :=
  addf (Host.dotGeneral dot_S33792x1024_S1024x5536_S33792x5536_1_0_0_1_n_n none h x11) (broadcastInDim S33792x5536 ![0, 1] bcast_S1x5536_S33792x5536_0_1 (broadcastInDim S1x5536 ![1] bcast_S5536_S1x5536_1 x12))

/-- A row of the two inputs: a context row below 1024, a latent row from there on. -/
def xRow (x0 : FVec Ideal S4x256x1024 .f32) (x1 : FVec Ideal S4x8192x1024 .f32) (R : Fin 33792) (k : Fin 1024) : EReal :=
  if h : R.val < 1024 then x0 (ix3 ⟨R.val / 256, by omega⟩ ⟨R.val % 256, by omega⟩ k) else x1 (ix3 ⟨(R.val - 1024) / 8192, by omega⟩ ⟨(R.val - 1024) % 8192, by omega⟩ k)

/-- A row of modulation: the context's own, or the batch's. -/
def gRow (x5 : FVec Ideal S4x6144 .f32) (x6 : FVec Ideal S6144 .f32) (o : ℕ) (ho : o ≤ 5120) (R : Fin 33792) (k : Fin 1024) : EReal :=
  if h : R.val < 1024 then x6 (ix1 ⟨o + k.val, by omega⟩) else x5 (ix2 ⟨(R.val - 1024) / 8192, by omega⟩ ⟨o + k.val, by omega⟩)

/-- The new residual row. -/
def xnRow (x0 : FVec Ideal S4x256x1024 .f32) (x1 : FVec Ideal S4x8192x1024 .f32) (x2 x3 : FVec Ideal S33792x1024 .f32) (x4 : FVec Ideal S33792x128 .f32) (x5 : FVec Ideal S4x6144 .f32) (x6 : FVec Ideal S6144 .f32) (x7 x8 : FVec Ideal S1024 .f32) (R : Fin 33792) (k : Fin 1024) : EReal :=
  affR (resR (xRow x0 x1 R) (gRow x5 x6 5120 (by omega) R) (fun k => x2 (ix2 R k)) (fun k => x3 (ix2 R k)) (x4 (ix2 R 0)) (x4 (ix2 R 1))) (fun k => x7 (ix1 k)) (fun k => x8 (ix1 k)) k

/-- The modulated row, of a residual row. -/
def hRow (xn : Fin 1024 → EReal) (x9 : FVec Ideal S4x6144 .f32) (x10 : FVec Ideal S6144 .f32) (R : Fin 33792) (k : Fin 1024) : EReal :=
  modR xn (gRow x9 x10 1024 (by omega) R) (gRow x9 x10 0 (by omega) R) k

theorem mixV_at (x2 x3 x4) (R : Fin 33792) (k : Fin 1024) : mixV x2 x3 x4 (ix2 R k) = (x2 (ix2 R k) * x4 (ix2 R 0) + x3 (ix2 R k) * x4 (ix2 R 1) : EReal) := by
  pointwise [mixV]

theorem resC_at (x0 f x6) (b : Fin 4) (q : Fin 256) (k : Fin 1024) : resC x0 f x6 (ix3 b q k)
    = (Ideal.ofBits FTy.f32 0x3FD744FD#32 * x0 (ix3 b q k) + x6 (ix1 ⟨5120 + k.val, by omega⟩) * f (ix2 ⟨256 * b.val + q.val, by omega⟩ k) : EReal) := by
  pointwise [resC, colsC]
  blk_point

theorem resL_at (x1 f x5) (b : Fin 4) (q : Fin 8192) (k : Fin 1024) : resL x1 f x5 (ix3 b q k)
    = (Ideal.ofBits FTy.f32 0x3FD744FD#32 * x1 (ix3 b q k) + x5 (ix2 b ⟨5120 + k.val, by omega⟩) * f (ix2 ⟨1024 + (8192 * b.val + q.val), by omega⟩ k) : EReal) := by
  pointwise [resL, batchL]
  blk_point

theorem affC_at (v x7 x8) (b : Fin 4) (q : Fin 256) (k : Fin 1024) : affC v x7 x8 (ix3 b q k) = affR (fun k => v (ix3 b q k)) (fun k => x7 (ix1 k)) (fun k => x8 (ix1 k)) k := by
  have e : affC v x7 x8 (ix3 b q k) = (lnC v (ix3 b q k) * colsC x7 (ix3 b q k) + colsC x8 (ix3 b q k) : EReal) := rfl
  rw [e, lnC_at, colsC_at, colsC_at]; rfl

theorem affL_at (v x7 x8) (b : Fin 4) (q : Fin 8192) (k : Fin 1024) : affL v x7 x8 (ix3 b q k) = affR (fun k => v (ix3 b q k)) (fun k => x7 (ix1 k)) (fun k => x8 (ix1 k)) k := by
  have e : affL v x7 x8 (ix3 b q k) = (lnL v (ix3 b q k) * colsL x7 (ix3 b q k) + colsL x8 (ix3 b q k) : EReal) := rfl
  rw [e, lnL_at, colsL_at, colsL_at]; rfl

theorem modC_at (v x10) (b : Fin 4) (q : Fin 256) (k : Fin 1024) : modC v x10 (ix3 b q k) = modR (fun k => v (ix3 b q k)) (fun k => x10 (ix1 ⟨1024 + k.val, by omega⟩)) (fun k => x10 (ix1 ⟨0 + k.val, by omega⟩)) k := by
  have e : modC v x10 (ix3 b q k) = (lnC v (ix3 b q k) * (Ideal.ofBits FTy.f32 0x3F800000#32 + x10 (ix1 ⟨1024 + k.val, by omega⟩)) + x10 (ix1 ⟨0 + k.val, by omega⟩) : EReal) := by
    pointwise [modC, colsC]
    all_goals blk_point
  rw [e, lnC_at]; rfl

theorem modL_at (v x9) (b : Fin 4) (q : Fin 8192) (k : Fin 1024) : modL v x9 (ix3 b q k) = modR (fun k => v (ix3 b q k)) (fun k => x9 (ix2 b ⟨1024 + k.val, by omega⟩)) (fun k => x9 (ix2 b ⟨0 + k.val, by omega⟩)) k := by
  have e : modL v x9 (ix3 b q k) = (lnL v (ix3 b q k) * (Ideal.ofBits FTy.f32 0x3F800000#32 + x9 (ix2 b ⟨1024 + k.val, by omega⟩)) + x9 (ix2 b ⟨0 + k.val, by omega⟩) : EReal) := by
    pointwise [modL, batchL]
    all_goals blk_point
  rw [e, lnL_at]; rfl

theorem both_at (u v) (R : Fin 33792) (k : Fin 1024) : both u v (ix2 R k) = xRow u v R k := by
  pointwise [both]; rfl

theorem projV_at (h x11 x12) (R : Fin 33792) (n : Fin 5536) : projV h x11 x12 (ix2 R n) = (∑ k : Fin 1024, h (ix2 R k) * x11 (ix2 k n) + x12 (ix1 n) : EReal) := by
  pointwise [projV]
end Cert.Proj
end
-- ==== Proof.ProjRefRows.lean ====
module

public import proofs.«01_k».proof.Proof.ProjRef
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proj

open Idealize.ShloMosaic Idealize.ShloMosaic.TcCoe Idealize.SL.Sem Cert.Reference2Ideal Cert.Reference2Ideal.Gen

/-- The rows of the experts of first choice and of second choice. -/
def ylo (y : FVec Ideal S67584x1024 .bf16) : FVec Ideal S33792x1024 .f32 := extf .f32 (extractStridedSlice S33792x1024 ![0, 0] y slices_S67584x1024_S33792x1024_0_0) bitsLt_bf16_f32
def yhi (y : FVec Ideal S67584x1024 .bf16) : FVec Ideal S33792x1024 .f32 := extf .f32 (extractStridedSlice S33792x1024 ![33792, 0] y slices_S67584x1024_S33792x1024_33792_0) bitsLt_bf16_f32

theorem ylo_at (y) (R : Fin 33792) (k : Fin 1024) : ylo y (ix2 R k) = (y (ix2 ⟨R.val, by omega⟩ k) : EReal) := by pointwise [ylo]
theorem yhi_at (y) (R : Fin 33792) (k : Fin 1024) : yhi y (ix2 R k) = (y (ix2 ⟨33792 + R.val, by omega⟩ k) : EReal) := by pointwise [yhi]

/-- The reference's new residual rows of the context and of the latents. -/
def xcT (x0 : FVec Ideal S4x256x1024 .f32) (x2 x3 : FVec Ideal S33792x1024 .f32) (x4 : FVec Ideal S33792x128 .f32) (x6 : FVec Ideal S6144 .f32) (x7 x8 : FVec Ideal S1024 .f32) : FVec Ideal S4x256x1024 .f32 :=
  affC (resC x0 (mixV x2 x3 x4) x6) x7 x8
def xlT (x1 : FVec Ideal S4x8192x1024 .f32) (x2 x3 : FVec Ideal S33792x1024 .f32) (x4 : FVec Ideal S33792x128 .f32) (x5 : FVec Ideal S4x6144 .f32) (x7 x8 : FVec Ideal S1024 .f32) : FVec Ideal S4x8192x1024 .f32 :=
  affL (resL x1 (mixV x2 x3 x4) x5) x7 x8

/-- The reference's first result. -/
def xnT (x0 : FVec Ideal S4x256x1024 .f32) (x1 : FVec Ideal S4x8192x1024 .f32) (x2 x3 : FVec Ideal S33792x1024 .f32) (x4 : FVec Ideal S33792x128 .f32) (x5 : FVec Ideal S4x6144 .f32) (x6 : FVec Ideal S6144 .f32) (x7 x8 : FVec Ideal S1024 .f32) : FVec Ideal S33792x1024 .f32 :=
  both (xcT x0 x2 x3 x4 x6 x7 x8) (xlT x1 x2 x3 x4 x5 x7 x8)

/-- The reference's projection, before its columns are put in order. -/
def uT (x0 : FVec Ideal S4x256x1024 .f32) (x1 : FVec Ideal S4x8192x1024 .f32) (x2 x3 : FVec Ideal S33792x1024 .f32) (x4 : FVec Ideal S33792x128 .f32) (x5 : FVec Ideal S4x6144 .f32) (x6 : FVec Ideal S6144 .f32) (x7 x8 : FVec Ideal S1024 .f32)
    (x9 : FVec Ideal S4x6144 .f32) (x10 : FVec Ideal S6144 .f32) (x11 : FVec Ideal S1024x5536 .f32) (x12 : FVec Ideal S5536 .f32) : FVec Ideal S33792x5536 .f32 :=
  projV (both (modC (xcT x0 x2 x3 x4 x6 x7 x8) x10) (modL (xlT x1 x2 x3 x4 x5 x7 x8) x9)) x11 x12

/-- The columns in order: the rest, the compressed queries and keys, the rotary key, its quarter turn, zeros. -/
def ordT (u : FVec Ideal S33792x5536 .f32) : FVec Ideal S33792x5632 .bf16 :=
  truncf .bf16 (concatenate S33792x5632 1 [⟨S33792x5120, extractStridedSlice S33792x5120 ![0, 416] u slices_S33792x5536_S33792x5120_0_416⟩, ⟨S33792x256, extractStridedSlice S33792x256 ![0, 0] u slices_S33792x5536_S33792x256_0_0⟩, ⟨S33792x128, extractStridedSlice S33792x128 ![0, 256] u slices_S33792x5536_S33792x128_0_256⟩, ⟨S33792x32, extractStridedSlice S33792x32 ![0, 384] u slices_S33792x5536_S33792x32_0_384⟩,
    ⟨S33792x32, concatenate S33792x32 1 [⟨S33792x8, Host.negf (F := Ideal) (φ := .f32) (extractStridedSlice S33792x8 ![0, 8] (extractStridedSlice S33792x32 ![0, 384] u slices_S33792x5536_S33792x32_0_384) slices_S33792x32_S33792x8_0_8)⟩, ⟨S33792x8, extractStridedSlice S33792x8 ![0, 0] (extractStridedSlice S33792x32 ![0, 384] u slices_S33792x5536_S33792x32_0_384) slices_S33792x32_S33792x8_0_0⟩, ⟨S33792x8, Host.negf (F := Ideal) (φ := .f32) (extractStridedSlice S33792x8 ![0, 24] (extractStridedSlice S33792x32 ![0, 384] u slices_S33792x5536_S33792x32_0_384) slices_S33792x32_S33792x8_0_24)⟩, ⟨S33792x8, extractStridedSlice S33792x8 ![0, 16] (extractStridedSlice S33792x32 ![0, 384] u slices_S33792x5536_S33792x32_0_384) slices_S33792x32_S33792x8_0_16⟩] concatenates_S33792x8_S33792x8_S33792x8_S33792x8_S33792x32_d1⟩,
    ⟨S33792x64, broadcastInDim S33792x64 ![] bcast_S_S33792x64 (constant (F := Ideal) S_ .f32 0x00000000#32)⟩] concatenates_S33792x5120_S33792x256_S33792x128_S33792x32_S33792x32_S33792x64_S33792x5632_d1) bitsLt_bf16_f32

/-- The latent rows' Fourier columns, in the layout of the Fourier call: sequence position 64 n + 16 j + r is row 16 n + r of block j. -/
def fT (u : FVec Ideal S33792x5536 .f32) : FVec Ideal S4x4x4x2048x128 .f32 :=
  shapeCast _ (transpose S16x4x128x2048 [0, 2, 1, 3] (shapeCast _ (transpose S4x4x8192x128 [0, 2, 1, 3] (shapeCast _ (extractStridedSlice S32768x512 ![1024, 0] (extractStridedSlice S33792x5120 ![0, 416] u slices_S33792x5536_S33792x5120_0_416) slices_S33792x5120_S32768x512_1024_0) shapeCasts_S32768x512_S4x8192x4x128) transposes_S4x8192x4x128_S4x4x8192x128_0_2_1_3) shapeCasts_S4x4x8192x128_S16x128x4x2048) transposes_S16x128x4x2048_S16x4x128x2048_0_2_1_3) shapeCasts_S16x4x128x2048_S4x4x4x2048x128

theorem fT_at (u) (b g jb : Fin 4) (p : Fin 2048) (ch : Fin 128) :
    fT u (ix5 b g jb p ch) = (u (ix2 ⟨1024 + 8192 * b.val + 64 * (p.val / 16) + 16 * jb.val + p.val % 16, by omega⟩ ⟨416 + 128 * g.val + ch.val, by omega⟩) : EReal) := by
  unfold fT
  refine (shapeCast_apply _ _ _ (ix4 (n0 := 16) (n1 := 4) (n2 := 128) (n3 := 2048) ⟨4 * b.val + g.val, by omega⟩ jb ⟨p.val / 16, by omega⟩ ⟨128 * (p.val % 16) + ch.val, by omega⟩) ?_).trans ?_
  · rw [Shape.rowMajor_val_four, Shape.rowMajor_val_five]
    show ((((4 * b.val + g.val) * 4 + jb.val) * 128 + p.val / 16) * 2048 + (128 * (p.val % 16) + ch.val) : ℕ) = (((b.val * 4 + g.val) * 4 + jb.val) * 2048 + p.val) * 128 + ch.val
    omega
  refine (transpose_apply _ _ _ _ (ix4 (n0 := 16) (n1 := 128) (n2 := 4) (n3 := 2048) ⟨4 * b.val + g.val, by omega⟩ ⟨p.val / 16, by omega⟩ jb ⟨128 * (p.val % 16) + ch.val, by omega⟩) ?_).trans ?_
  · intro a; fin_cases a <;> rfl
  refine (shapeCast_apply _ _ _ (ix4 (n0 := 4) (n1 := 4) (n2 := 8192) (n3 := 128) b g ⟨64 * (p.val / 16) + 16 * jb.val + p.val % 16, by omega⟩ ch) ?_).trans ?_
  · rw [Shape.rowMajor_val_four, Shape.rowMajor_val_four]
    show (((b.val * 4 + g.val) * 8192 + (64 * (p.val / 16) + 16 * jb.val + p.val % 16)) * 128 + ch.val : ℕ) = (((4 * b.val + g.val) * 128 + p.val / 16) * 4 + jb.val) * 2048 + (128 * (p.val % 16) + ch.val)
    omega
  refine (transpose_apply _ _ _ _ (ix4 (n0 := 4) (n1 := 8192) (n2 := 4) (n3 := 128) b ⟨64 * (p.val / 16) + 16 * jb.val + p.val % 16, by omega⟩ g ch) ?_).trans ?_
  · intro a; fin_cases a <;> rfl
  refine (shapeCast_apply _ _ _ (ix2 (n0 := 32768) (n1 := 512) ⟨8192 * b.val + (64 * (p.val / 16) + 16 * jb.val + p.val % 16), by omega⟩ ⟨128 * g.val + ch.val, by omega⟩) ?_).trans ?_
  · rw [Shape.rowMajor_val_two, Shape.rowMajor_val_four]
    show ((8192 * b.val + (64 * (p.val / 16) + 16 * jb.val + p.val % 16)) * 512 + (128 * g.val + ch.val) : ℕ) = ((b.val * 8192 + (64 * (p.val / 16) + 16 * jb.val + p.val % 16)) * 4 + g.val) * 128 + ch.val
    omega
  refine congrArg u (funext fun a => Fin.ext ?_)
  fin_cases a
  · show (0 + (1024 + (8192 * b.val + (64 * (p.val / 16) + 16 * jb.val + p.val % 16))) : ℕ) = 1024 + 8192 * b.val + 64 * (p.val / 16) + 16 * jb.val + p.val % 16
    omega
  · show (416 + (0 + (128 * g.val + ch.val)) : ℕ) = 416 + 128 * g.val + ch.val
    omega

theorem xnT_at (x0 x1 x2 x3 x4 x5 x6 x7 x8) (R : Fin 33792) (k : Fin 1024) : xnT x0 x1 x2 x3 x4 x5 x6 x7 x8 (ix2 R k) = xnRow x0 x1 x2 x3 x4 x5 x6 x7 x8 R k := by
  unfold xnT
  rw [both_at]
  by_cases h : R.val < 1024
  · have e : (⟨256 * (R.val / 256) + R.val % 256, by omega⟩ : Fin 33792) = R := Fin.ext (by show 256 * (R.val / 256) + R.val % 256 = R.val; omega)
    unfold xRow xcT xnRow
    rw [dif_pos h]
    refine (affC_at _ _ _ _ _ _).trans ?_
    refine congrArg (fun z => affR z (fun k => x7 (ix1 k)) (fun k => x8 (ix1 k)) k) (funext fun l => ?_)
    refine (resC_at _ _ _ _ _ _).trans ?_
    rw [mixV_at]
    dsimp only
    rw [e]
    unfold resR xRow gRow
    rw [dif_pos h, dif_pos h]
  · have e : (⟨1024 + (8192 * ((R.val - 1024) / 8192) + (R.val - 1024) % 8192), by omega⟩ : Fin 33792) = R := Fin.ext (by show 1024 + (8192 * ((R.val - 1024) / 8192) + (R.val - 1024) % 8192) = R.val; omega)
    unfold xRow xlT xnRow
    rw [dif_neg h]
    refine (affL_at _ _ _ _ _ _).trans ?_
    refine congrArg (fun z => affR z (fun k => x7 (ix1 k)) (fun k => x8 (ix1 k)) k) (funext fun l => ?_)
    refine (resL_at _ _ _ _ _ _).trans ?_
    rw [mixV_at]
    dsimp only
    rw [e]
    unfold resR xRow gRow
    rw [dif_neg h, dif_neg h]

/-- The modulated rows are those of the new residual rows. -/
theorem hT_at (x0 x1 x2 x3 x4 x5 x6 x7 x8 x9 x10) (R : Fin 33792) (k : Fin 1024) :
    both (modC (xcT x0 x2 x3 x4 x6 x7 x8) x10) (modL (xlT x1 x2 x3 x4 x5 x7 x8) x9) (ix2 R k) = hRow (xnRow x0 x1 x2 x3 x4 x5 x6 x7 x8 R) x9 x10 R k := by
  have ex : xnRow x0 x1 x2 x3 x4 x5 x6 x7 x8 R = fun l => xRow (xcT x0 x2 x3 x4 x6 x7 x8) (xlT x1 x2 x3 x4 x5 x7 x8) R l :=
    funext fun l => ((xnT_at x0 x1 x2 x3 x4 x5 x6 x7 x8 R l).symm.trans (both_at _ _ R l))
  rw [both_at, ex]
  by_cases h : R.val < 1024
  · unfold xRow hRow gRow
    simp only [dif_pos h]
    exact modC_at _ _ _ _ _
  · unfold xRow hRow gRow
    simp only [dif_neg h]
    exact modL_at _ _ _ _ _

/-- One entry of the projection. -/
def uRow (h : Fin 1024 → EReal) (x11 : FVec Ideal S1024x5536 .f32) (x12 : FVec Ideal S5536 .f32) (n : Fin 5536) : EReal := ∑ k : Fin 1024, h k * x11 (ix2 k n) + x12 (ix1 n)

theorem uT_at (x0 x1 x2 x3 x4 x5 x6 x7 x8 x9 x10 x11 x12) (R : Fin 33792) (n : Fin 5536) :
    uT x0 x1 x2 x3 x4 x5 x6 x7 x8 x9 x10 x11 x12 (ix2 R n) = uRow (hRow (xnRow x0 x1 x2 x3 x4 x5 x6 x7 x8 R) x9 x10 R) x11 x12 n := by
  unfold uT uRow
  rw [projV_at]
  simp only [hT_at]

/-- The columns in their new order, of one row's entries. -/
def ordR (u : Fin 5536 → EReal) (j : Fin 5632) : EReal :=
  if h : j.val < 5120 then u ⟨416 + j.val, by omega⟩
  else if h : j.val < 5536 then u ⟨j.val - 5120, by omega⟩
  else if h : j.val < 5544 then - u ⟨j.val - 5536 + 392, by omega⟩
  else if h : j.val < 5552 then u ⟨j.val - 5544 + 384, by omega⟩
  else if h : j.val < 5560 then - u ⟨j.val - 5552 + 408, by omega⟩
  else if h : j.val < 5568 then u ⟨j.val - 5560 + 400, by omega⟩
  else 0

theorem ordT_at (u) (R : Fin 33792) (j : Fin 5632) : ordT u (ix2 R j) = ordR (fun n => u (ix2 R n)) j := by
  pointwise [ordT]
  unfold ordR
  have hu : ∀ a b : Fin 5536, a.val = b.val → u (ix2 R a) = u (ix2 R b) := fun a b h => by rw [Fin.ext h]
  split_ifs <;> first
    | (exfalso; omega)
    | (simp (disch := omega) only [dif_pos, dif_neg]
       first
         | done
         | exact hu _ _ (by dsimp only; omega)
         | exact congrArg Neg.neg (hu _ _ (by dsimp only; omega)))
end Cert.Proj
end
-- ==== Proof.ProjGather.lean ====
module

public import proofs.«01_k».proof.Proof.Gen.Kernel2Ideal.Skeleton
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proj

open Idealize.ShloMosaic Idealize.ShloMosaic.TcCoe Idealize.SL.Sem Cert.Kernel2Ideal Cert.Kernel2Ideal.Gen

/-- The dimension numbers of picking columns of a matrix by a list. -/
abbrev colDims (n : ℕ) (wf : GatherDims.WF ⟨2, ![n, 32]⟩ ⟨2, ![32, 1]⟩ ⟨2, ![n, 32]⟩ [0] [1] [] [1] [] 1 ![n, 1]) :
    GatherDims ⟨2, ![n, 32]⟩ ⟨2, ![32, 1]⟩ ⟨2, ![n, 32]⟩ where
  offsetDims := [0]
  collapsedSliceDims := [1]
  operandBatchingDims := []
  startIndicesBatchingDims := []
  startIndexMap := [1]
  indexVectorDim := 1
  sliceSizes := ![n, 1]
  wf := wf

/-- Columns picked by a list: a row's entry is the row's entry in the column the list names. -/
theorem gather_cols {α : Type} {n : ℕ} (wf) (x : (⟨2, ![n, 32]⟩ : Shape).Idx → α) (idx : IVec ⟨2, ![32, 1]⟩ 32) (R : Fin n) (j : Fin 32) (q : Fin 32)
    (hq : min (idx (ix2 j 0)).toInt.toNat 31 = q.val) :
    Host.gather (colDims n wf) x idx (ix2 R j) = x (ix2 R q) := by
  refine congrArg x (funext fun a => Fin.ext ?_)
  show (colDims n wf).start (ix2 R j) idx a + (colDims n wf).batchCoord (ix2 R j) a + (colDims n wf).offCoord (ix2 R j) a = _
  rw [GatherDims.batchCoord_eq_zero _ _ _ List.not_mem_nil]
  fin_cases a
  · have h1 : (colDims n wf).start (ix2 R j) idx 0 = 0 := by
      unfold GatherDims.start
      exact dif_neg (show (0 : Fin 2) ∉ ([1] : List (Fin 2)) by decide)
    have h2 : (colDims n wf).offCoord (ix2 R j) 0 = R.val := by
      unfold GatherDims.offCoord
      rw [dif_pos ((GatherDims.mem_sKept _ _).mpr ⟨show (0 : Fin 2) ∉ ([1] : List (Fin 2)) by decide, List.not_mem_nil⟩)]
      rfl
    show (colDims n wf).start (ix2 R j) idx 0 + 0 + (colDims n wf).offCoord (ix2 R j) 0 = R.val
    rw [h1, h2]; omega
  · have h1 : (colDims n wf).start (ix2 R j) idx 1 = q.val := by
      unfold GatherDims.start
      rw [dif_pos (show (1 : Fin 2) ∈ (colDims n wf).startIndexMap from List.mem_singleton.mpr rfl)]
      refine Eq.trans ?_ hq
      have hs : (colDims n wf).siIdx (ix2 R j) ⟨List.idxOf (1 : Fin 2) (colDims n wf).startIndexMap, List.idxOf_lt_length_iff.2 (List.mem_singleton.mpr rfl)⟩ = ix2 j 0 := by
        funext b; apply Fin.ext; fin_cases b <;> rfl
      rw [hs]; rfl
    have h2 : (colDims n wf).offCoord (ix2 R j) 1 = 0 :=
      GatherDims.offCoord_eq_zero _ _ _ (fun h => ((GatherDims.mem_sKept _ _).mp h).1 (List.mem_singleton.mpr rfl))
    show (colDims n wf).start (ix2 R j) idx 1 + 0 + (colDims n wf).offCoord (ix2 R j) 1 = q.val
    rw [h1, h2]; rfl

/-- The list of the rotary partner columns, as the kernel's host code spells it. -/
def rotIdx : IVec S32x1 32 := broadcastInDim S32x1 ![0] bcast_S32_S32x1_0 (select (constantI S32 1 0#1) (addi (fun i => lit0 (S32.rowMajor i)) (broadcastInDim S32 ![] bcast_S_S32 (constantI S_ 32 32#32))) (fun i => lit0 (S32.rowMajor i)))

/-- The partners' signs. -/
def rotSign : FVec Ideal S32 .f32 := fun i => FloatOps.ofBits .f32 (lit1 (S32.rowMajor i))

/-- A column's partner: eight on, or eight back. -/
def partner (j : Fin 32) : Fin 32 := if j.val / 8 % 2 = 0 then ⟨(j.val + 8) % 32, by omega⟩ else ⟨j.val - 8, by omega⟩

theorem rotIdx_at : ∀ j : Fin 32, min (rotIdx (ix2 j 0)).toInt.toNat 31 = (partner j).val := by decide +kernel

theorem rotBits : ∀ j : Fin 32, lit1 (S32.rowMajor (ix1 j)) = if j.val / 8 % 2 = 0 then 0xBF800000#32 else 0x3F800000#32 := by decide +kernel

theorem rotSign_at (j : Fin 32) : rotSign (ix1 j) = (if j.val / 8 % 2 = 0 then -1 else 1 : EReal) := by
  show Ideal.ofBits .f32 (lit1 (S32.rowMajor (ix1 j))) = _
  rw [rotBits]
  split_ifs
  · simp [Ideal.ofBits, Ideal.ieee]; try (rw [← EReal.coe_mul]; norm_num)
  · simp [Ideal.ofBits, Ideal.ieee]; try (rw [← EReal.coe_mul]; norm_num)

/-- The rotary partner columns of the weights. -/
def rotW (a : FVec Ideal S1024x32 .f32) : FVec Ideal S1024x32 .f32 :=
  mulf (Host.gather gather_S1024x32_S32x1_S1024x32_0_1_n_n_1_1_10241 a rotIdx) (broadcastInDim S1024x32 ![0, 1] bcast_S1x32_S1024x32_0_1 (broadcastInDim S1x32 ![1] bcast_S32_S1x32_1 rotSign))

/-- The rotary partner columns of the bias. -/
def rotB (a : FVec Ideal S1x32 .f32) : FVec Ideal S1x32 .f32 :=
  mulf (Host.gather gather_S1x32_S32x1_S1x32_0_1_n_n_1_1_11 a rotIdx) (broadcastInDim S1x32 ![1] bcast_S32_S1x32_1 rotSign)

/-- A row's entries turned: every other run of eight swapped with the next, with its sign changed. -/
def turn (u : Fin 32 → EReal) (j : Fin 32) : EReal := if j.val / 8 % 2 = 0 then - u (partner j) else u (partner j)

theorem mul_sign (x : EReal) (P : Prop) [Decidable P] : x * (if P then -1 else 1 : EReal) = if P then - x else x := by
  split_ifs
  · rw [mul_neg, mul_one]
  · rw [mul_one]

theorem rotW_at (a) (R : Fin 1024) (j : Fin 32) : rotW a (ix2 R j) = turn (fun q => a (ix2 R q)) j := by
  refine Eq.trans (congrArg₂ (fun x y : EReal => x * y) (gather_cols (n := 1024) _ a rotIdx R j (partner j) (rotIdx_at j)) (?_ : _ = rotSign (ix1 j))) ?_
  · pointwise
  · rw [rotSign_at]; exact mul_sign _ _

theorem rotB_at (a) (j : Fin 32) : rotB a (ix2 0 j) = turn (fun q => a (ix2 0 q)) j := by
  refine Eq.trans (congrArg₂ (fun x y : EReal => x * y) (gather_cols (n := 1) _ a rotIdx 0 j (partner j) (rotIdx_at j)) (?_ : _ = rotSign (ix1 j))) ?_
  · pointwise
  · rw [rotSign_at]; exact mul_sign _ _
end Cert.Proj
end
-- ==== Proof.ProjHost.lean ====
module

public import proofs.«01_k».proof.Proof.ProjRefRows
public import proofs.«01_k».proof.Proof.ProjGather
public import proofs.«01_k».proof.Proof.Gen.Kernel2Ideal.Value
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proj

open Idealize.ShloMosaic Idealize.ShloMosaic.TcCoe Idealize.SL.Sem Cert.Kernel2Ideal Cert.Kernel2Ideal.Gen

/-- The rows of both inputs, context first. -/
def catX (a : FVec Ideal S4x256x1024 .f32) (b : FVec Ideal S4x8192x1024 .f32) : FVec Ideal S33792x1024 .f32 :=
  concatenate S33792x1024 0 [⟨S1024x1024, shapeCast S1024x1024 a shapeCasts_S4x256x1024_S1024x1024⟩, ⟨S32768x1024, shapeCast S32768x1024 b shapeCasts_S4x8192x1024_S32768x1024⟩] concatenates_S1024x1024_S32768x1024_S33792x1024_d0

/-- The modulations of the batches and of the context, six to a row, and zeros. -/
def catM (a : FVec Ideal S4x6144 .f32) (b : FVec Ideal S6144 .f32) : FVec Ideal S8x8x1024 .f32 :=
  concatenate S8x8x1024 1 [⟨S8x6x1024, shapeCast S8x6x1024 (concatenate S8x6144 0 [⟨S4x6144, a⟩, ⟨S1x6144, broadcastInDim S1x6144 ![1] bcast_S6144_S1x6144_1 b⟩, ⟨S3x6144, broadcastInDim S3x6144 ![] bcast_S_S3x6144 (constant (F := Ideal) S_ .f32 0x00000000#32)⟩] concatenates_S4x6144_S1x6144_S3x6144_S8x6144_d0) shapeCasts_S8x6144_S8x6x1024⟩,
    ⟨S8x2x1024, broadcastInDim S8x2x1024 ![] bcast_S_S8x2x1024 (constant (F := Ideal) S_ .f32 0x00000000#32)⟩] concatenates_S8x6x1024_S8x2x1024_S8x8x1024_d1

/-- A vector as a row. -/
def asRow (a : FVec Ideal S1024 .f32) : FVec Ideal S1x1024 .f32 := broadcastInDim S1x1024 ![1] bcast_S1024_S1x1024_1 a

/-- The weights' columns in their new order. -/
def catIn (a : FVec Ideal S1024x5536 .f32) : FVec Ideal S1024x5632 .bf16 :=
  truncf .bf16 (concatenate S1024x5632 1 [⟨S1024x2048, extractStridedSlice S1024x2048 ![0, 416] a slices_S1024x5536_S1024x2048_0_416⟩, ⟨S1024x3072, extractStridedSlice S1024x3072 ![0, 2464] a slices_S1024x5536_S1024x3072_0_2464⟩, ⟨S1024x384, extractStridedSlice S1024x384 ![0, 0] a slices_S1024x5536_S1024x384_0_0⟩, ⟨S1024x32, extractStridedSlice S1024x32 ![0, 384] a slices_S1024x5536_S1024x32_0_384⟩,
    ⟨S1024x32, rotW (extractStridedSlice S1024x32 ![0, 384] a slices_S1024x5536_S1024x32_0_384)⟩, ⟨S1024x64, broadcastInDim S1024x64 ![] bcast_S_S1024x64 (constant (F := Ideal) S_ .f32 0x00000000#32)⟩] concatenates_S1024x2048_S1024x3072_S1024x384_S1024x32_S1024x32_S1024x64_S1024x5632_d1) bitsLt_bf16_f32

/-- The bias as a row. -/
def biasRow (x : FVec Ideal S5536 .f32) : FVec Ideal S1x5536 .f32 := broadcastInDim S1x5536 ![1] bcast_S5536_S1x5536_1 x

/-- The bias's columns in their new order. -/
def catB (a : FVec Ideal S1x5536 .f32) : FVec Ideal S1x5632 .f32 :=
  concatenate S1x5632 1 [⟨S1x2048, extractStridedSlice S1x2048 ![0, 416] a slices_S1x5536_S1x2048_0_416⟩, ⟨S1x3072, extractStridedSlice S1x3072 ![0, 2464] a slices_S1x5536_S1x3072_0_2464⟩, ⟨S1x384, extractStridedSlice S1x384 ![0, 0] a slices_S1x5536_S1x384_0_0⟩, ⟨S1x32, extractStridedSlice S1x32 ![0, 384] a slices_S1x5536_S1x32_0_384⟩,
    ⟨S1x32, rotB (extractStridedSlice S1x32 ![0, 384] a slices_S1x5536_S1x32_0_384)⟩, ⟨S1x64, broadcastInDim S1x64 ![] bcast_S_S1x64 (constant (F := Ideal) S_ .f32 0x00000000#32)⟩] concatenates_S1x2048_S1x3072_S1x384_S1x32_S1x32_S1x64_S1x5632_d1

theorem catX_at (a b) (R : Fin 33792) (k : Fin 1024) : catX a b (ix2 R k) = xRow a b R k := both_at a b R k

theorem catM_lo (a b) (R : Fin 4) (q : Fin 6) (k : Fin 1024) : catM a b (ix3 ⟨R.val, by omega⟩ ⟨q.val, by omega⟩ k) = (a (ix2 R ⟨1024 * q.val + k.val, by omega⟩) : EReal) := by
  pointwise [catM]
  refine congrArg a (congrArg (ix2 R) (Fin.ext ?_))
  show q.val * 1024 + k.val = 1024 * q.val + k.val
  omega

theorem catM_hi (a b) (q : Fin 6) (k : Fin 1024) : catM a b (ix3 4 ⟨q.val, by omega⟩ k) = (b (ix1 ⟨1024 * q.val + k.val, by omega⟩) : EReal) := by
  pointwise [catM]
  refine congrArg b (congrArg ix1 (Fin.ext ?_))
  show q.val * 1024 + k.val = 1024 * q.val + k.val
  omega

theorem asRow_at (a) (k : Fin 1024) : asRow a (ix2 0 k) = (a (ix1 k) : EReal) := by pointwise [asRow]

theorem catIn_at (a) (R : Fin 1024) (j : Fin 5632) : catIn a (ix2 R j) = ordR (fun n => a (ix2 R n)) j := by
  have e : ∀ (q : Fin 32) (n : Fin 5536), n.val = 384 + (partner q).val → extractStridedSlice _ ![0, 384] a slices_S1024x5536_S1024x32_0_384 (ix2 R (partner q)) = a (ix2 R n) := fun q n hn => by
    have : n = ⟨384 + (partner q).val, by omega⟩ := Fin.ext hn
    rw [this]; pointwise
  have hp : ∀ q : Fin 32, (partner q).val = if q.val / 8 % 2 = 0 then (q.val + 8) % 32 else q.val - 8 := fun q => by unfold partner; split_ifs <;> rfl
  have hT : ∀ (q : Fin 32) (n : Fin 5536), q.val / 8 % 2 = 0 → n.val = 392 + q.val →
      rotW (extractStridedSlice _ ![0, 384] a slices_S1024x5536_S1024x32_0_384) (ix2 R q) = - a (ix2 R n) := fun q n h hn => by
    refine (rotW_at _ R q).trans ((if_pos h).trans (congrArg (fun z : EReal => - z) (e q n ?_)))
    rw [hp, if_pos h]; omega
  have hF : ∀ (q : Fin 32) (n : Fin 5536), ¬ q.val / 8 % 2 = 0 → n.val = 376 + q.val →
      rotW (extractStridedSlice _ ![0, 384] a slices_S1024x5536_S1024x32_0_384) (ix2 R q) = a (ix2 R n) := fun q n h hn => by
    refine (rotW_at _ R q).trans ((if_neg h).trans (e q n ?_))
    rw [hp, if_neg h]; omega
  pointwise [catIn]
  unfold ordR
  have hu : ∀ x y : Fin 5536, x.val = y.val → a (ix2 R x) = a (ix2 R y) := fun x y h => by rw [Fin.ext h]
  split_ifs <;> first
    | (exfalso; omega)
    | (simp (disch := omega) only [dif_pos, dif_neg]
       first
         | done
         | exact hu _ _ (by dsimp only; omega)
         | (by_cases c1 : j.val < 5544
            · rw [dif_pos c1]; exact hT _ _ (by dsimp only; omega) (by dsimp only; omega)
            · rw [dif_neg c1]
              by_cases c2 : j.val < 5552
              · rw [dif_pos c2]; exact hF _ _ (by dsimp only; omega) (by dsimp only; omega)
              · rw [dif_neg c2]
                by_cases c3 : j.val < 5560
                · rw [dif_pos c3]; exact hT _ _ (by dsimp only; omega) (by dsimp only; omega)
                · rw [dif_neg c3]; exact hF _ _ (by dsimp only; omega) (by dsimp only; omega)))

theorem catB_at (a) (j : Fin 5632) : catB a (ix2 0 j) = ordR (fun n => a (ix2 0 n)) j := by
  have e : ∀ (q : Fin 32) (n : Fin 5536), n.val = 384 + (partner q).val → extractStridedSlice _ ![0, 384] a slices_S1x5536_S1x32_0_384 (ix2 0 (partner q)) = a (ix2 0 n) := fun q n hn => by
    have : n = ⟨384 + (partner q).val, by omega⟩ := Fin.ext hn
    rw [this]; pointwise
  have hp : ∀ q : Fin 32, (partner q).val = if q.val / 8 % 2 = 0 then (q.val + 8) % 32 else q.val - 8 := fun q => by unfold partner; split_ifs <;> rfl
  have hT : ∀ (q : Fin 32) (n : Fin 5536), q.val / 8 % 2 = 0 → n.val = 392 + q.val →
      rotB (extractStridedSlice _ ![0, 384] a slices_S1x5536_S1x32_0_384) (ix2 0 q) = - a (ix2 0 n) := fun q n h hn => by
    refine (rotB_at _ q).trans ((if_pos h).trans (congrArg (fun z : EReal => - z) (e q n ?_)))
    rw [hp, if_pos h]; omega
  have hF : ∀ (q : Fin 32) (n : Fin 5536), ¬ q.val / 8 % 2 = 0 → n.val = 376 + q.val →
      rotB (extractStridedSlice _ ![0, 384] a slices_S1x5536_S1x32_0_384) (ix2 0 q) = a (ix2 0 n) := fun q n h hn => by
    refine (rotB_at _ q).trans ((if_neg h).trans (e q n ?_))
    rw [hp, if_neg h]; omega
  pointwise [catB]
  unfold ordR
  have hu : ∀ x y : Fin 5536, x.val = y.val → a (ix2 0 x) = a (ix2 0 y) := fun x y h => by rw [Fin.ext h]
  split_ifs <;> first
    | (exfalso; omega)
    | (simp (disch := omega) only [dif_pos, dif_neg]
       first
         | done
         | exact hu _ _ (by dsimp only; omega)
         | (by_cases c1 : j.val < 5544
            · rw [dif_pos c1]; exact hT _ _ (by dsimp only; omega) (by dsimp only; omega)
            · rw [dif_neg c1]
              by_cases c2 : j.val < 5552
              · rw [dif_pos c2]; exact hF _ _ (by dsimp only; omega) (by dsimp only; omega)
              · rw [dif_neg c2]
                by_cases c3 : j.val < 5560
                · rw [dif_pos c3]; exact hT _ _ (by dsimp only; omega) (by dsimp only; omega)
                · rw [dif_neg c3]; exact hF _ _ (by dsimp only; omega) (by dsimp only; omega)))

theorem biasRow_at (x) (n : Fin 5536) : biasRow x (ix2 0 n) = (x (ix1 n) : EReal) := by pointwise [biasRow]
end Cert.Proj
end
-- ==== Proof.ProjBlocks.lean ====
module

public import proofs.«01_k».proof.Proof.ProjHost
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proj

open Idealize.ShloMosaic Idealize.ShloMosaic.TcCoe Idealize.SL.Sem Cert.Kernel2Ideal Cert.Kernel2Ideal.Gen

variable (m : (ℓ : Loc nD τ sig) → Buf (Elt Ideal) ℓ) (c : Dev nD)

/-- The arguments as the kernel's program holds them. -/
abbrev b0 : FVec Ideal S4x256x1024 .f32 := m ((c.tc : Thread nD τ).loc main_arg0)
abbrev b1 : FVec Ideal S4x8192x1024 .f32 := m ((c.tc : Thread nD τ).loc main_arg1)
abbrev bY : FVec Ideal S67584x1024 .bf16 := m ((c.tc : Thread nD τ).loc main_arg2)
abbrev b2 : FVec Ideal S33792x1024 .f32 := ylo (bY m c)
abbrev b3 : FVec Ideal S33792x1024 .f32 := yhi (bY m c)
abbrev b4 : FVec Ideal S33792x128 .f32 := m ((c.tc : Thread nD τ).loc main_arg3)
abbrev b5 : FVec Ideal S4x6144 .f32 := m ((c.tc : Thread nD τ).loc main_arg4)
abbrev b6 : FVec Ideal S6144 .f32 := m ((c.tc : Thread nD τ).loc main_arg5)
abbrev b7 : FVec Ideal S1024 .f32 := m ((c.tc : Thread nD τ).loc main_arg6)
abbrev b8 : FVec Ideal S1024 .f32 := m ((c.tc : Thread nD τ).loc main_arg7)
abbrev b9 : FVec Ideal S4x6144 .f32 := m ((c.tc : Thread nD τ).loc main_arg8)
abbrev b10 : FVec Ideal S6144 .f32 := m ((c.tc : Thread nD τ).loc main_arg9)
abbrev b11 : FVec Ideal S1024x5536 .f32 := m ((c.tc : Thread nD τ).loc main_arg10)
abbrev b12 : FVec Ideal S5536 .f32 := m ((c.tc : Thread nD τ).loc main_arg11)

theorem Vx : V m c main_v2 = catX (b0 m c) (b1 m c) := by
  unfold V
  simp only [hostOps0]
  after_results
  rfl
theorem Vy : V m c main_arg2 = bY m c := by
  unfold V
  simp only [hostOps0]
  after_results
theorem Vw : V m c main_arg3 = b4 m c := by
  unfold V
  simp only [hostOps0]
  after_results
theorem Vm4 : V m c main_v43 = catM (b5 m c) (b6 m c) := by
  unfold V
  simp only [hostOps0]
  after_results
  (try simp only [Matrix.cons_val]; after_results_loop)
  rfl
theorem Vg : V m c main_v44 = asRow (b7 m c) := by
  unfold V
  simp only [hostOps0]
  after_results
  rfl
theorem Vb : V m c main_v45 = asRow (b8 m c) := by
  unfold V
  simp only [hostOps0]
  after_results
  rfl
theorem Vm7 : V m c main_v37 = catM (b9 m c) (b10 m c) := by
  unfold V
  simp only [hostOps0]
  after_results
  (try simp only [Matrix.cons_val]; after_results_loop)
  rfl
theorem cat6_congr {s s0 s1 s2 s3 s4 s5 : Shape} {α : Type} {a : Fin s.rank} (x0 y0 : s0.Idx → α) (x1 y1 : s1.Idx → α) (x2 y2 : s2.Idx → α) (x3 y3 : s3.Idx → α) (x4 y4 : s4.Idx → α) (x5 y5 : s5.Idx → α) (h)
    (e0 : x0 = y0) (e1 : x1 = y1) (e2 : x2 = y2) (e3 : x3 = y3) (e4 : x4 = y4) (e5 : x5 = y5) :
    concatenate s a [⟨s0, x0⟩, ⟨s1, x1⟩, ⟨s2, x2⟩, ⟨s3, x3⟩, ⟨s4, x4⟩, ⟨s5, x5⟩] h = concatenate s a [⟨s0, y0⟩, ⟨s1, y1⟩, ⟨s2, y2⟩, ⟨s3, y3⟩, ⟨s4, y4⟩, ⟨s5, y5⟩] h := by
  subst e0 e1 e2 e3 e4 e5; rfl

theorem Vin : V m c main_v17 = catIn (b11 m c) := by
  unfold V
  simp only [hostOps0]
  after_results
  simp only [Matrix.cons_val]
  refine congrArg (fun z => truncf (F := Ideal) .bf16 z bitsLt_bf16_f32) (cat6_congr _ _ _ _ _ _ _ _ _ _ _ _ _ ?_ ?_ ?_ ?_ ?_ ?_)
  · after_results_loop; try rfl
  · after_results_loop; try rfl
  · after_results_loop; try rfl
  · after_results_loop; try rfl
  · after_results_loop; try rfl
  · after_results_loop; try rfl
theorem Vbias : V m c main_v31 = catB (biasRow (b12 m c)) := by
  unfold V
  simp only [hostOps0]
  after_results
  simp only [Matrix.cons_val]
  refine cat6_congr _ _ _ _ _ _ _ _ _ _ _ _ _ ?_ ?_ ?_ ?_ ?_ ?_
  · after_results_loop; try rfl
  · after_results_loop; try rfl
  · after_results_loop; try rfl
  · after_results_loop; try rfl
  · after_results_loop; try rfl
  · after_results_loop; try rfl

/-- The modulation's row a grid point reads: the context's, or its batch's. -/
def mrow (t : ℕ) : ℕ := if t < 2 then 4 else (t - 2) / 16

theorem idxA : ∀ t : Fin cfg0.N, win0_0.index t = ![t.val, 0] ∧ win0_1.index t = ![t.val, 0] ∧ win0_2.index t = ![66 + t.val, 0] ∧ win0_3.index t = ![t.val, 0] :=
  (by decide +kernel : ∀ t : Fin grid0.N, _)
theorem idxB : ∀ t : Fin cfg0.N, win0_4.index t = ![mrow t.val, 0, 0] ∧ win0_7.index t = ![mrow t.val, 0, 0] :=
  (by decide +kernel : ∀ t : Fin grid0.N, _)
theorem idxC : ∀ t : Fin cfg0.N, win0_5.index t = ![0, 0] ∧ win0_6.index t = ![0, 0] ∧ win0_8.index t = ![0, 0] ∧ win0_9.index t = ![0, 0] :=
  (by decide +kernel : ∀ t : Fin grid0.N, _)

theorem mrow_lt (t : Fin cfg0.N) : mrow t.val < 8 := by
  have : t.val < 66 := t.isLt
  unfold mrow; split_ifs <;> omega

/-- The row a block's row is, in the whole array. -/
abbrev rowOf (t : Fin cfg0.N) (r : Fin 512) : Fin 33792 := ⟨512 * t.val + r.val, by have : t.val < 66 := t.isLt; omega⟩

theorem jb0 (t : Fin cfg0.N) (r : Fin 512) (l : Fin 1024) : iblk m c 0 t (ix2 r l) = V m c main_v2 (ix2 (rowOf t r) l) := by
  blk_ext [iblk, idxA t]
theorem jb1 (t : Fin cfg0.N) (r : Fin 512) (l : Fin 1024) : iblk m c 1 t (ix2 r l) = V m c main_arg2 (ix2 ⟨(rowOf t r).val, by have := (rowOf t r).isLt; omega⟩ l) := by
  blk_ext [iblk, idxA t]
theorem jb2 (t : Fin cfg0.N) (r : Fin 512) (l : Fin 1024) : iblk m c 2 t (ix2 r l) = V m c main_arg2 (ix2 ⟨33792 + (rowOf t r).val, by have := (rowOf t r).isLt; omega⟩ l) := by
  blk_ext [iblk, idxA t]
theorem jb3 (t : Fin cfg0.N) (r : Fin 512) (l : Fin 128) : iblk m c 3 t (ix2 r l) = V m c main_arg3 (ix2 (rowOf t r) l) := by
  blk_ext [iblk, idxA t]
theorem jb4 (t : Fin cfg0.N) (q : Fin 8) (l : Fin 1024) : iblk m c 4 t (ix3 0 q l) = V m c main_v43 (ix3 ⟨mrow t.val, mrow_lt t⟩ q l) := by
  blk_ext [iblk, idxB t]
theorem jb7 (t : Fin cfg0.N) (q : Fin 8) (l : Fin 1024) : iblk m c 7 t (ix3 0 q l) = V m c main_v37 (ix3 ⟨mrow t.val, mrow_lt t⟩ q l) := by
  blk_ext [iblk, idxB t]
theorem jb5 (t : Fin cfg0.N) (l : Fin 1024) : iblk m c 5 t (ix2 0 l) = V m c main_v44 (ix2 0 l) := by
  blk_ext [iblk, idxC t]
theorem jb6 (t : Fin cfg0.N) (l : Fin 1024) : iblk m c 6 t (ix2 0 l) = V m c main_v45 (ix2 0 l) := by
  blk_ext [iblk, idxC t]
theorem jb8 (t : Fin cfg0.N) (k : Fin 1024) (j : Fin 5632) : iblk m c 8 t (ix2 k j) = V m c main_v17 (ix2 k j) := by
  blk_ext [iblk, idxC t]
theorem jb9 (t : Fin cfg0.N) (j : Fin 5632) : iblk m c 9 t (ix2 0 j) = V m c main_v31 (ix2 0 j) := by
  blk_ext [iblk, idxC t]
end Cert.Proj
end
-- ==== Proof.ProjChunks.lean ====
module

public import proofs.«01_k».proof.Proof.ProjBody
public import proofs.«01_k».proof.Proof.Gen.Kernel2Ideal.Frame
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proj

open Idealize.ShloMosaic Idealize.ShloMosaic.TcCoe Idealize.SL.Sem Cert.Kernel2Ideal Cert.Kernel2Ideal.Gen

theorem inbU (o : Fin 11) : ∀ a, (![0, 512 * o.val] : Fin 2 → ℕ) a + (![512, 512] : Fin 2 → ℕ) a ≤ S512x5632.size a := by
  intro a; have := o.isLt; fin_cases a <;> simp <;> omega

theorem col_emb (o : Fin 11) {n N : ℕ} (h) (x : (⟨2, ![n, 512]⟩ : Shape).Idx) (hN : N = 5632) :
    (Rect.unit (s := ⟨2, ![n, N]⟩) ![0, 512 * o.val] ![n, 512] h).emb x = ix2 (x 0) ⟨512 * o.val + (x 1).val, by have h : (x 1).val < 512 := (x 1).isLt; have := o.isLt; show _ < N; omega⟩ := by
  funext a; apply Fin.ext
  show ((Rect.unit (s := ⟨2, ![n, N]⟩) ![0, 512 * o.val] ![n, 512] h).idx x a).val = _
  fin_cases a <;> simp [LoadRect.idx]

/-- Eleven stores, one per chunk of columns, leave the function they are blocks of. -/
theorem eleven (G : S512x5632.Idx → EReal) (P : Fin 11 → S512x512.Idx → EReal)
    (hP : ∀ o x, P o x = G (ix2 (x 0) ⟨512 * o.val + (x 1).val, by have h : (x 1).val < 512 := (x 1).isLt; have := o.isLt; show _ < 5632; omega⟩)) (i0 i1 i2 i3 i4 i5 i6 i7 i8 i9 i10) :
    View.canon (Val := Elt Ideal) (s := S512x5632) (e := .bf16)
      [⟨Rect.unit ![0, 5120] ![512, 512] i10, P 10⟩, ⟨Rect.unit ![0, 4608] ![512, 512] i9, P 9⟩, ⟨Rect.unit ![0, 4096] ![512, 512] i8, P 8⟩, ⟨Rect.unit ![0, 3584] ![512, 512] i7, P 7⟩, ⟨Rect.unit ![0, 3072] ![512, 512] i6, P 6⟩, ⟨Rect.unit ![0, 2560] ![512, 512] i5, P 5⟩, ⟨Rect.unit ![0, 2048] ![512, 512] i4, P 4⟩, ⟨Rect.unit ![0, 1536] ![512, 512] i3, P 3⟩, ⟨Rect.unit ![0, 1024] ![512, 512] i2, P 2⟩, ⟨Rect.unit ![0, 512] ![512, 512] i1, P 1⟩, ⟨Rect.unit ![0, 0] ![512, 512] i0, P 0⟩] = G := by
  funext y
  have hp : ∀ (o : Fin 11) (h) (x : S512x512.Idx), P o x = G ((Rect.unit (s := S512x5632) ![0, 512 * o.val] ![512, 512] h).emb x) :=
    fun o h x => by
      have e := col_emb (n := 512) (N := 5632) o h x rfl
      exact (hP o x).trans (congrArg G e.symm)
  have hm : ∀ o : Fin 11, (y 1).val / 512 = o.val → y ∈ (Rect.unit (s := S512x5632) ![0, 512 * o.val] ![512, 512] (inbU o)).set := by
    intro o ho
    rw [Rect.mem_set_unit]
    have h0 : (y 0).val < 512 := (y 0).isLt
    intro a; fin_cases a <;> simp <;> omega
  obtain ⟨o, ho⟩ : ∃ o : Fin 11, (y 1).val / 512 = o.val :=
    ⟨⟨(y 1).val / 512, by have : (y 1).val < 5632 := (y 1).isLt; omega⟩, rfl⟩
  have hy := hm o ho
  refine View.canon_append_of_piecesOf (Val := Elt Ideal) (s := S512x5632) (e := .bf16) G []
    [⟨Rect.unit ![0, 5120] ![512, 512] i10, P 10⟩, ⟨Rect.unit ![0, 4608] ![512, 512] i9, P 9⟩, ⟨Rect.unit ![0, 4096] ![512, 512] i8, P 8⟩, ⟨Rect.unit ![0, 3584] ![512, 512] i7, P 7⟩, ⟨Rect.unit ![0, 3072] ![512, 512] i6, P 6⟩, ⟨Rect.unit ![0, 2560] ![512, 512] i5, P 5⟩, ⟨Rect.unit ![0, 2048] ![512, 512] i4, P 4⟩, ⟨Rect.unit ![0, 1536] ![512, 512] i3, P 3⟩, ⟨Rect.unit ![0, 1024] ![512, 512] i2, P 2⟩, ⟨Rect.unit ![0, 512] ![512, 512] i1, P 1⟩, ⟨Rect.unit ![0, 0] ![512, 512] i0, P 0⟩]
    ⟨hp 10 i10, hp 9 i9, hp 8 i8, hp 7 i7, hp 6 i6, hp 5 i5, hp 4 i4, hp 3 i3, hp 2 i2, hp 1 i1, hp 0 i0, trivial⟩ y ?_
  have hl : ∀ (p : View.Piece (Elt Ideal) S512x5632 .bf16) (A B : List (View.Piece (Elt Ideal) S512x5632 .bf16)), y ∈ p.1.set → ∃ q ∈ A ++ p :: B, y ∈ q.1.set :=
    fun p A B h => ⟨p, List.mem_append_right A (.head B), h⟩
  fin_cases o
  · exact hl ⟨Rect.unit ![0, 0] ![512, 512] i0, P 0⟩ [_, _, _, _, _, _, _, _, _, _] [] hy
  · exact hl ⟨Rect.unit ![0, 512] ![512, 512] i1, P 1⟩ [_, _, _, _, _, _, _, _, _] [_] hy
  · exact hl ⟨Rect.unit ![0, 1024] ![512, 512] i2, P 2⟩ [_, _, _, _, _, _, _, _] [_, _] hy
  · exact hl ⟨Rect.unit ![0, 1536] ![512, 512] i3, P 3⟩ [_, _, _, _, _, _, _] [_, _, _] hy
  · exact hl ⟨Rect.unit ![0, 2048] ![512, 512] i4, P 4⟩ [_, _, _, _, _, _] [_, _, _, _] hy
  · exact hl ⟨Rect.unit ![0, 2560] ![512, 512] i5, P 5⟩ [_, _, _, _, _] [_, _, _, _, _] hy
  · exact hl ⟨Rect.unit ![0, 3072] ![512, 512] i6, P 6⟩ [_, _, _, _] [_, _, _, _, _, _] hy
  · exact hl ⟨Rect.unit ![0, 3584] ![512, 512] i7, P 7⟩ [_, _, _] [_, _, _, _, _, _, _] hy
  · exact hl ⟨Rect.unit ![0, 4096] ![512, 512] i8, P 8⟩ [_, _] [_, _, _, _, _, _, _, _] hy
  · exact hl ⟨Rect.unit ![0, 4608] ![512, 512] i9, P 9⟩ [_] [_, _, _, _, _, _, _, _, _] hy
  · exact hl ⟨Rect.unit ![0, 5120] ![512, 512] i10, P 10⟩ [] [_, _, _, _, _, _, _, _, _, _] hy

/-- The projection's block: every row against every column, and the bias. -/
def GU (h : S512x1024.Idx → EReal) (w : S1024x5632.Idx → EReal) (b : S1x5632.Idx → EReal) : S512x5632.Idx → EReal := fun i =>
  ∑ k : Fin 1024, h (ix2 (i 0) k) * w (ix2 k (i 1)) + b (ix2 0 (i 1))

theorem inbW (o : Fin 11) : ∀ a, (![0, 512 * o.val] : Fin 2 → ℕ) a + (![1024, 512] : Fin 2 → ℕ) a ≤ S1024x5632.size a := by
  intro a; have := o.isLt; fin_cases a <;> simp <;> omega
theorem inbB (o : Fin 11) : ∀ a, (![0, 512 * o.val] : Fin 2 → ℕ) a + (![1, 512] : Fin 2 → ℕ) a ≤ S1x5632.size a := by
  intro a; have := o.isLt; fin_cases a <;> simp <;> omega

/-- One chunk of the projection, of the chunk's columns as the kernel loads them. -/
def chunkU (h : Vec Ideal S512x1024 .bf16) (w : Vec Ideal S1024x5632 .bf16) (b : Vec Ideal S1x5632 .f32) (o : Fin 11) : S512x512.Idx → EReal :=
  k0_pay1 (F := Ideal) h (View.ld w (Rect.unit (s := S1024x5632) ![0, 512 * o.val] ![1024, 512] (inbW o))) (View.ld b (Rect.unit (s := S1x5632) ![0, 512 * o.val] ![1, 512] (inbB o)))

theorem chunkU_at (h w b) (o : Fin 11) (x : S512x512.Idx) :
    chunkU h w b o x = GU h w b (ix2 (x 0) ⟨512 * o.val + (x 1).val, by have h : (x 1).val < 512 := (x 1).isLt; have := o.isLt; show _ < 5632; omega⟩) := by
  have hx : x = ix2 (x 0) (x 1) := by funext a; fin_cases a <;> rfl
  unfold chunkU GU
  rw [hx]
  refine (pay1_at _ _ _ _ _).trans ?_
  refine congrArg₂ (fun a b : EReal => a + b) (Finset.sum_congr rfl fun k _ => ?_) ?_
  · refine congrArg (fun z : EReal => h (ix2 (x 0) k) * z) ?_
    exact congrArg w (col_emb (n := 1024) (N := 5632) o (inbW o) (ix2 k (x 1)) rfl)
  · exact congrArg b (col_emb (n := 1) (N := 5632) o (inbB o) (ix2 0 (x 1)) rfl)

/-- The eleven stores of a grid point leave the projection's block. -/
theorem out11_eq (x0 x1 x2 x3 x4 x5 x6 x7 x8 x9) :
    out0_11 (F := Ideal) x0 x1 x2 x3 x4 x5 x6 x7 x8 x9 = GU (k0_pay171 x0 x1 x2 x3 x4 x5 x6 x7 x8 x9) x8 x9 :=
  eleven _ (chunkU (k0_pay171 x0 x1 x2 x3 x4 x5 x6 x7 x8 x9) x8 x9) (fun o x => chunkU_at _ _ _ o x) _ _ _ _ _ _ _ _ _ _ _
end Cert.Proj
end
-- ==== Proof.ProjKernel.lean ====
module

public import proofs.«01_k».proof.Proof.ProjBlocks
public import proofs.«01_k».proof.Proof.ProjChunks
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proj

open Idealize.ShloMosaic Idealize.ShloMosaic.TcCoe Idealize.SL.Sem Cert.Kernel2Ideal Cert.Kernel2Ideal.Gen

variable (m : (ℓ : Loc nD τ sig) → Buf (Elt Ideal) ℓ) (c : Dev nD)

theorem ld2 {n N : ℕ} {e : EltTy} (x : Vec Ideal ⟨2, ![n, N]⟩ e) (h) (r : Fin n) (l : Fin N) :
    View.ld x (Rect.unit (s := ⟨2, ![n, N]⟩) ![0, 0] ![n, N] h) (ix2 r l) = x (ix2 r l) := by
  refine congrArg x ?_
  funext a; apply Fin.ext
  show ((Rect.unit (s := ⟨2, ![n, N]⟩) ![0, 0] ![n, N] h).idx (ix2 r l) a).val = _
  fin_cases a <;> simp [LoadRect.idx]

theorem ld3 (x : Vec Ideal S1x8x1024 .f32) (q : Fin 8) (h) (l : Fin 1024) :
    View.ld x (Rect.unit (s := S1x8x1024) ![0, q.val, 0] ![1, 1, 1024] h) (ix3 0 0 l) = x (ix3 0 q l) := by
  refine congrArg x ?_
  funext a; apply Fin.ext
  show ((Rect.unit (s := S1x8x1024) ![0, q.val, 0] ![1, 1, 1024] h).idx (ix3 0 0 l) a).val = _
  fin_cases a <;> simp [LoadRect.idx]

theorem catM_row (a b) (t : Fin cfg0.N) (r : Fin 512) (q : Fin 6) (l : Fin 1024) :
    catM a b (ix3 ⟨mrow t.val, mrow_lt t⟩ ⟨q.val, by omega⟩ l) = gRow a b (1024 * q.val) (by omega) (rowOf t r) l := by
  have ht : t.val < 66 := t.isLt
  unfold gRow
  by_cases h : t.val < 2
  · have e : (⟨mrow t.val, mrow_lt t⟩ : Fin 8) = 4 := Fin.ext (by show mrow t.val = 4; unfold mrow; rw [if_pos h])
    rw [e, dif_pos (by show 512 * t.val + r.val < 1024; omega)]
    exact catM_hi a b q l
  · have e : (⟨mrow t.val, mrow_lt t⟩ : Fin 8) = ⟨(⟨(512 * t.val + r.val - 1024) / 8192, by omega⟩ : Fin 4).val, by dsimp only; omega⟩ :=
      Fin.ext (by show mrow t.val = (512 * t.val + r.val - 1024) / 8192; unfold mrow; rw [if_neg h]; omega)
    rw [e, dif_neg (by show ¬ 512 * t.val + r.val < 1024; omega)]
    exact catM_lo a b ⟨(512 * t.val + r.val - 1024) / 8192, by omega⟩ q l

/-- The normalised residual rows of a grid point. -/
theorem pay169_at (t : Fin cfg0.N) (r : Fin 512) (l : Fin 1024) :
    k0_pay169 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r l)
      = lnR (resR (xRow (b0 m c) (b1 m c) (rowOf t r)) (gRow (b5 m c) (b6 m c) 5120 (by omega) (rowOf t r)) (fun k => b2 m c (ix2 (rowOf t r) k)) (fun k => b3 m c (ix2 (rowOf t r) k)) (b4 m c (ix2 (rowOf t r) 0)) (b4 m c (ix2 (rowOf t r) 1))) l := by
  unfold k0_pay169
  refine (pay2_at _ _ _ _ _ r l).trans ?_
  have h0 : ∀ k, View.ld (iblk m c 0 t) r0_1 (ix2 r k) = xRow (b0 m c) (b1 m c) (rowOf t r) k := fun k =>
    (ld2 (iblk m c 0 t) _ r k).trans ((jb0 m c t r k).trans (by rw [Vx]; exact catX_at _ _ _ _))
  have h1 : ∀ k, View.ld (iblk m c 1 t) r0_1 (ix2 r k) = b2 m c (ix2 (rowOf t r) k) := fun k =>
    (ld2 (iblk m c 1 t) _ r k).trans ((jb1 m c t r k).trans (by rw [Vy]; exact (ylo_at _ _ _).symm))
  have h2 : ∀ k, View.ld (iblk m c 2 t) r0_1 (ix2 r k) = b3 m c (ix2 (rowOf t r) k) := fun k =>
    (ld2 (iblk m c 2 t) _ r k).trans ((jb2 m c t r k).trans (by rw [Vy]; exact (yhi_at _ _ _).symm))
  have h3 : View.ld (iblk m c 3 t) r0_0 (ix2 r 0) = b4 m c (ix2 (rowOf t r) 0) :=
    (ld2 (iblk m c 3 t) _ r 0).trans ((jb3 m c t r 0).trans (by rw [Vw]))
  have h3' : View.ld (iblk m c 3 t) r0_0 (ix2 r 1) = b4 m c (ix2 (rowOf t r) 1) :=
    (ld2 (iblk m c 3 t) _ r 1).trans ((jb3 m c t r 1).trans (by rw [Vw]))
  have h4 : ∀ k, View.ld (iblk m c 4 t) r0_2 (ix3 0 0 k) = gRow (b5 m c) (b6 m c) 5120 (by omega) (rowOf t r) k := fun k =>
    (ld3 (iblk m c 4 t) 5 _ k).trans ((jb4 m c t 5 k).trans (by rw [Vm4]; exact catM_row _ _ t r 5 k))
  exact congrArg (fun z => lnR z l) (by
    funext k
    unfold resR
    dsimp only
    rw [h0, h1, h2, h3, h3', h4])

/-- The new residual rows of a grid point. -/
theorem pay3_row (t : Fin cfg0.N) (r : Fin 512) (l : Fin 1024) :
    k0_pay4 (F := Ideal) (k0_pay169 (iblk m c 0 t) (iblk m c 1 t) (iblk m c 2 t) (iblk m c 3 t) (iblk m c 4 t) (iblk m c 5 t) (iblk m c 6 t) (iblk m c 7 t) (iblk m c 8 t) (iblk m c 9 t)) (k0_pay3 (View.ld (iblk m c 5 t) r0_3)) (View.ld (iblk m c 6 t) r0_3) (ix2 r l)
      = xnRow (b0 m c) (b1 m c) (b2 m c) (b3 m c) (b4 m c) (b5 m c) (b6 m c) (b7 m c) (b8 m c) (rowOf t r) l := by
  have h5 : ∀ k, View.ld (iblk m c 5 t) r0_3 (ix2 0 k) = b7 m c (ix1 k) := fun k =>
    (ld2 (iblk m c 5 t) _ 0 k).trans ((jb5 m c t k).trans (by rw [Vg]; exact asRow_at _ _))
  have h6 : ∀ k, View.ld (iblk m c 6 t) r0_3 (ix2 0 k) = b8 m c (ix1 k) := fun k =>
    (ld2 (iblk m c 6 t) _ 0 k).trans ((jb6 m c t k).trans (by rw [Vb]; exact asRow_at _ _))
  rw [pay3_at, pay169_at, h5, h6]
  rfl

/-- The modulated rows of a grid point. -/
theorem pay171_at (t : Fin cfg0.N) (r : Fin 512) (l : Fin 1024) :
    k0_pay171 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r l)
      = hRow (xnRow (b0 m c) (b1 m c) (b2 m c) (b3 m c) (b4 m c) (b5 m c) (b6 m c) (b7 m c) (b8 m c) (rowOf t r)) (b9 m c) (b10 m c) (rowOf t r) l := by
  unfold k0_pay171 k0_pay170
  refine (pay4_at _ _ _ _ _ r l).trans ?_
  have h7 : ∀ k, View.ld (iblk m c 7 t) r0_4 (ix3 0 0 k) = gRow (b9 m c) (b10 m c) 1024 (by omega) (rowOf t r) k := fun k =>
    (ld3 (iblk m c 7 t) 1 _ k).trans ((jb7 m c t 1 k).trans (by rw [Vm7]; exact catM_row _ _ t r 1 k))
  have h7' : ∀ k, View.ld (iblk m c 7 t) r0_5 (ix3 0 0 k) = gRow (b9 m c) (b10 m c) 0 (by omega) (rowOf t r) k := fun k =>
    (ld3 (iblk m c 7 t) 0 _ k).trans ((jb7 m c t 0 k).trans (by rw [Vm7]; exact catM_row _ _ t r 0 k))
  refine (congrArg (fun z => modR z (fun k => View.ld (iblk m c 7 t) r0_4 (ix3 0 0 k)) (fun k => View.ld (iblk m c 7 t) r0_5 (ix3 0 0 k)) l) (funext fun k => pay3_row m c t r k)).trans ?_
  unfold hRow modR
  dsimp only
  rw [h7, h7']

/-- The same, of the whole row of the shift. -/
theorem pay3_row' (t : Fin cfg0.N) (r : Fin 512) (l : Fin 1024) :
    k0_pay4 (F := Ideal) (k0_pay169 (iblk m c 0 t) (iblk m c 1 t) (iblk m c 2 t) (iblk m c 3 t) (iblk m c 4 t) (iblk m c 5 t) (iblk m c 6 t) (iblk m c 7 t) (iblk m c 8 t) (iblk m c 9 t)) (k0_pay170 (iblk m c 0 t) (iblk m c 1 t) (iblk m c 2 t) (iblk m c 3 t) (iblk m c 4 t) (iblk m c 5 t) (iblk m c 6 t) (iblk m c 7 t) (iblk m c 8 t) (iblk m c 9 t)) (iblk m c 6 t) (ix2 r l)
      = xnRow (b0 m c) (b1 m c) (b2 m c) (b3 m c) (b4 m c) (b5 m c) (b6 m c) (b7 m c) (b8 m c) (rowOf t r) l := by
  unfold k0_pay170
  refine Eq.trans ?_ (pay3_row m c t r l)
  refine (pay3_at _ _ _ r l).trans (Eq.trans ?_ (pay3_at _ _ _ r l).symm)
  have h6 : View.ld (iblk m c 6 t) r0_3 (ix2 0 l) = iblk m c 6 t (ix2 0 l) := ld2 (iblk m c 6 t) _ 0 l
  rw [h6]

theorem idxO : ∀ t : Fin cfg0.N, win0_10.index t = ![t.val, 0] ∧ win0_11.index t = ![t.val, 0] :=
  (by decide +kernel : ∀ t : Fin grid0.N, _)

/-- A block of the projection, a row at a time. -/
theorem GU_row (t : Fin cfg0.N) (r : Fin 512) (j : Fin 5632) :
    GU (k0_pay171 (F := Ideal) (iblk m c 0 t) (iblk m c 1 t) (iblk m c 2 t) (iblk m c 3 t) (iblk m c 4 t) (iblk m c 5 t) (iblk m c 6 t) (iblk m c 7 t) (iblk m c 8 t) (iblk m c 9 t)) (iblk m c 8 t) (iblk m c 9 t) (ix2 r j)
      = ∑ k : Fin 1024, hRow (xnRow (b0 m c) (b1 m c) (b2 m c) (b3 m c) (b4 m c) (b5 m c) (b6 m c) (b7 m c) (b8 m c) (rowOf t r)) (b9 m c) (b10 m c) (rowOf t r) k * ordR (fun n => b11 m c (ix2 k n)) j
        + ordR (fun n => b12 m c (ix1 n)) j := by
  have h8 : ∀ k, iblk m c 8 t (ix2 k j) = ordR (fun n => b11 m c (ix2 k n)) j := fun k =>
    (jb8 m c t k j).trans (by rw [Vin]; exact catIn_at _ _ _)
  have h9 : iblk m c 9 t (ix2 0 j) = ordR (fun n => b12 m c (ix1 n)) j :=
    (jb9 m c t j).trans (by rw [Vbias]; refine (catB_at _ _).trans (congrArg (fun z => ordR z j) (funext fun n => biasRow_at _ n)))
  unfold GU
  refine congrArg₂ (fun a b : EReal => a + b) (Finset.sum_congr rfl fun k _ => ?_) h9
  exact congrArg₂ (fun a b : EReal => a * b) (pay171_at m c t r k) (h8 k)

theorem emb10 (t : Fin cfg0.N) (y : S512x1024.Idx) : (((View.whole main_v46_0).slice (win0_10.rect t)).emb y : S33792x1024.Idx) = ix2 (rowOf t (y 0)) (y 1) := by
  blk_ext [idxO t]
theorem emb11 (t : Fin cfg0.N) (y : S512x5632.Idx) : (((View.whole main_v46_1).slice (win0_11.rect t)).emb y : S33792x5632.Idx) = ix2 (rowOf t (y 0)) (y 1) := by
  blk_ext [idxO t]

/-- The new residual rows the kernel leaves are the reference's. -/
theorem final10 : (dats m 0 c).arrAt 10 cfg0.N = xnT (b0 m c) (b1 m c) (b2 m c) (b3 m c) (b4 m c) (b5 m c) (b6 m c) (b7 m c) (b8 m c) := by
  refine (dats m 0 c).arrAt_eq_of_covers 10 _ (by decide +kernel) fun t _ y => ?_
  blk_simp
  rw [after0_10]; frame_out
  have hy : y = ix2 (n0 := 512) (n1 := 1024) (y 0) (y 1) := by funext a; fin_cases a <;> rfl
  refine Eq.trans ?_ (congrArg (xnT (b0 m c) (b1 m c) (b2 m c) (b3 m c) (b4 m c) (b5 m c) (b6 m c) (b7 m c) (b8 m c)) (emb10 t y)).symm
  refine Eq.trans ?_ (xnT_at _ _ _ _ _ _ _ _ _ _ _).symm
  refine Eq.trans ?_ (pay3_row' m c t (y 0) (y 1))
  exact congrArg _ hy
end Cert.Proj
end
-- ==== Proof.ProjMath.lean ====
module

public import proofs.«01_k».proof.Proof.ProjRefRows
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proj

open Idealize.ShloMosaic Idealize.ShloMosaic.TcCoe Idealize.SL.Sem

/-- Being a real number. -/
def Rl (x : EReal) : Prop := ∃ r : ℝ, x = (r : EReal)

theorem Rl.add {x y : EReal} (hx : Rl x) (hy : Rl y) : Rl (x + y) := by
  obtain ⟨a, rfl⟩ := hx; obtain ⟨b, rfl⟩ := hy; exact ⟨a + b, (EReal.coe_add a b).symm⟩
theorem Rl.sub {x y : EReal} (hx : Rl x) (hy : Rl y) : Rl (x - y) := by
  obtain ⟨a, rfl⟩ := hx; obtain ⟨b, rfl⟩ := hy; exact ⟨a - b, (EReal.coe_sub a b).symm⟩
theorem Rl.mul {x y : EReal} (hx : Rl x) (hy : Rl y) : Rl (x * y) := by
  obtain ⟨a, rfl⟩ := hx; obtain ⟨b, rfl⟩ := hy; exact ⟨a * b, (EReal.coe_mul a b).symm⟩

theorem coe_sum {ι : Type} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

theorem w1024 : Ideal.ofBits FTy.f32 0x44800000#32 = ((1024 : ℝ) : EReal) := by
  simp [Ideal.ofBits, Ideal.ieee]; rw [← EReal.coe_mul]; norm_num
theorem wOne : Rl (Ideal.ofBits FTy.f32 0x3F800000#32) := ⟨_, by simp [Ideal.ofBits, Ideal.ieee]; rfl⟩
theorem wAlpha : Rl (Ideal.ofBits FTy.f32 0x3FD744FD#32) := ⟨_, by simp [Ideal.ofBits, Ideal.ieee]; rfl⟩
theorem wEps : ∃ e : ℝ, 0 < e ∧ Ideal.ofBits FTy.f32 0x358637BD#32 = (e : EReal) := by
  refine ⟨_, ?_, by simp [Ideal.ofBits, Ideal.ieee]; rfl⟩
  norm_num

/-- The mean of a real row. -/
theorem meanR_coe (z : Fin 1024 → ℝ) : meanR (fun k => (z k : EReal)) = (((∑ k, z k) / 1024 : ℝ) : EReal) := by
  unfold meanR
  rw [w1024, Ideal.div_coe (by norm_num), ← coe_sum, ← EReal.coe_mul]
  congr 1; ring

/-- A real row's normalisation is real: what the root is taken of is positive. -/
theorem lnR_real (z : Fin 1024 → EReal) (hz : ∀ k, Rl (z k)) (k : Fin 1024) : Rl (lnR z k) := by
  choose f hf using hz
  obtain rfl : z = fun k => (f k : EReal) := funext hf
  have hc : ∀ k, cenR (fun k => (f k : EReal)) k = ((f k - (∑ k, f k) / 1024 : ℝ) : EReal) := fun k => by
    unfold cenR; rw [meanR_coe, ← EReal.coe_sub]
  obtain ⟨e, he, hE⟩ := wEps
  unfold lnR
  simp only [hc, ← EReal.coe_mul]
  rw [meanR_coe, hE, ← EReal.coe_add, Ideal.rsqrt_coe]
  have hp : 0 < (∑ k, (f k - (∑ k, f k) / 1024) * (f k - (∑ k, f k) / 1024)) / 1024 + e := by
    have : 0 ≤ ∑ k, (f k - (∑ k, f k) / 1024) * (f k - (∑ k, f k) / 1024) := Finset.sum_nonneg fun k _ => mul_self_nonneg _
    positivity
  rw [if_neg (not_lt.mpr hp.le), if_neg hp.ne', ← EReal.coe_mul]
  exact ⟨_, rfl⟩

theorem Rl.of_add {x y : EReal} (h : Rl (x + y)) : Rl x ∧ Rl y := by
  obtain ⟨r, hr⟩ := h
  induction x with
  | bot => rw [EReal.bot_add] at hr; exact absurd hr.symm (EReal.coe_ne_bot r)
  | top =>
    induction y with
    | bot => rw [EReal.add_bot] at hr; exact absurd hr.symm (EReal.coe_ne_bot r)
    | top => rw [EReal.top_add_top] at hr; exact absurd hr.symm (EReal.coe_ne_top r)
    | coe y => rw [EReal.top_add_coe] at hr; exact absurd hr.symm (EReal.coe_ne_top r)
  | coe x =>
    induction y with
    | bot => rw [EReal.add_bot] at hr; exact absurd hr.symm (EReal.coe_ne_bot r)
    | top => rw [EReal.coe_add_top] at hr; exact absurd hr.symm (EReal.coe_ne_top r)
    | coe y => exact ⟨⟨x, rfl⟩, ⟨y, rfl⟩⟩

theorem Rl.of_sum {ι : Type} (S : Finset ι) (f : ι → EReal) (h : Rl (∑ i ∈ S, f i)) : ∀ i ∈ S, Rl (f i) := by
  classical
  induction S using Finset.induction_on with
  | empty => simp
  | insert a S ha ih =>
    rw [Finset.sum_insert ha] at h
    obtain ⟨h1, h2⟩ := h.of_add
    intro i hi
    rcases Finset.mem_insert.mp hi with rfl | hi
    · exact h1
    · exact ih h2 i hi

/-- A row with an entry that is not real has an infinite sum, so every centred entry is infinite. -/
theorem cenR_inf (z : Fin 1024 → EReal) (hz : ¬ ∀ k, Rl (z k)) (k : Fin 1024) : cenR z k = ⊤ ∨ cenR z k = ⊥ := by
  have hs : ¬ Rl (∑ k, z k) := fun h => hz fun k => Rl.of_sum _ _ h k (Finset.mem_univ k)
  have hm : meanR z = ∑ k, z k := by
    unfold meanR
    rw [w1024, Ideal.div_coe (by norm_num)]
    generalize (∑ k, z k) = s at hs ⊢
    induction s with
    | bot => exact EReal.bot_mul_coe_of_pos (by norm_num)
    | top => exact EReal.top_mul_coe_of_pos (by norm_num)
    | coe s => exact absurd ⟨s, rfl⟩ hs
  unfold cenR
  rw [hm]
  generalize (∑ k, z k) = s at hs ⊢
  generalize z k = x
  induction s with
  | bot => induction x <;> simp [sub_eq_add_neg]
  | top => induction x <;> simp [sub_eq_add_neg]
  | coe s => exact absurd ⟨s, rfl⟩ hs

/-- A row's normalisation is real, whatever the row: where the row is not real the root's reciprocal is zero. -/
theorem lnR_any (z : Fin 1024 → EReal) (k : Fin 1024) : Rl (lnR z k) := by
  by_cases hz : ∀ k, Rl (z k)
  · exact lnR_real z hz k
  · have hq : ∀ k, cenR z k * cenR z k = ⊤ := fun k => by
      rcases cenR_inf z hz k with h | h <;> rw [h]
      · exact EReal.top_mul_top
      · exact EReal.bot_mul_bot
    have hS : (∑ k : Fin 1024, cenR z k * cenR z k) = ⊤ := by
      refine top_le_iff.mp ?_
      have := Finset.single_le_sum (f := fun k : Fin 1024 => cenR z k * cenR z k) (s := Finset.univ) (fun i _ => by show 0 ≤ cenR z i * cenR z i; rw [hq]; exact le_top) (Finset.mem_univ 0)
      rwa [hq] at this
    obtain ⟨e, he, hE⟩ := wEps
    unfold lnR meanR
    rw [hS, w1024, Ideal.div_coe (by norm_num), EReal.top_mul_coe_of_pos (by norm_num), hE, EReal.top_add_coe]
    refine ⟨0, ?_⟩
    show cenR z k * (0 : EReal) = _
    rw [mul_zero]; rfl

theorem modR_real (z sc sh : Fin 1024 → EReal) (hs : ∀ k, Rl (sc k)) (hh : ∀ k, Rl (sh k)) (k : Fin 1024) : Rl (modR z sc sh k) :=
  ((lnR_any z k).mul (wOne.add (hs k))).add (hh k)

/-- A real row against negated real columns. -/
theorem neg_row (h w : Fin 1024 → EReal) (b : EReal) (hh : ∀ k, Rl (h k)) (hw : ∀ k, Rl (w k)) :
    ∑ k : Fin 1024, h k * (- w k) + (- b) = - (∑ k : Fin 1024, h k * w k + b) := by
  choose f hf using hh
  choose g hg using hw
  simp only [hf, hg, ← EReal.coe_neg, ← EReal.coe_mul, ← coe_sum]
  have e : (∑ k : Fin 1024, f k * (- g k)) = - ∑ k : Fin 1024, f k * g k := by
    simp only [mul_neg, Finset.sum_neg_distrib]
  rw [e]
  generalize (∑ k : Fin 1024, f k * g k) = s
  induction b with
  | bot => simp
  | top => simp
  | coe b =>
    rw [← EReal.coe_neg, ← EReal.coe_add, ← EReal.coe_add, ← EReal.coe_neg]
    congr 1; ring

/-- Reordering the columns before the projection is reordering its entries after it. -/
theorem ord_row (h : Fin 1024 → EReal) (W : Fin 1024 → Fin 5536 → EReal) (B : Fin 5536 → EReal) (hh : ∀ k, Rl (h k)) (hW : ∀ k (n : Fin 5536), 384 ≤ n.val → n.val < 416 → Rl (W k n)) (j : Fin 5632) :
    ∑ k : Fin 1024, h k * ordR (W k) j + ordR B j = ordR (fun n => ∑ k : Fin 1024, h k * W k n + B n) j := by
  unfold ordR
  split_ifs
  · rfl
  · rfl
  · exact neg_row h _ _ hh (fun k => hW k _ (by dsimp only; omega) (by dsimp only; omega))
  · rfl
  · exact neg_row h _ _ hh (fun k => hW k _ (by dsimp only; omega) (by dsimp only; omega))
  · rfl
  · simp
end Cert.Proj
end
-- ==== Proof.ProjLat.lean ====
module

public import proofs.«01_k».proof.Proof.Gen.Kernel2Ideal.Value
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proj

open Idealize.ShloMosaic Idealize.ShloMosaic.TcCoe Idealize.SL.Sem Cert.Kernel2Ideal Cert.Kernel2Ideal.Gen

/-- A block of sixteen rows and 128 columns, under three unit axes. -/
theorem tile_at (acc : FVec Ideal S512x512 .f32) (o1 o2 : ℕ) (hs) (hc) (h1 : o1 + 16 ≤ 512) (h2 : o2 + 128 ≤ 512) (x : S1x1x1x16x128.Idx) :
    shapeCast S1x1x1x16x128 (extractStridedSlice S16x128 ![o1, o2] acc hs) hc x
      = acc (ix2 ⟨o1 + (x 3).val, by have h : (x 3).val < 16 := (x 3).isLt; omega⟩ ⟨o2 + (x 4).val, by have h : (x 4).val < 128 := (x 4).isLt; omega⟩) := by
  have e0 : (x 0).val = 0 := by have h : (x 0).val < 1 := (x 0).isLt; omega
  have e1 : (x 1).val = 0 := by have h : (x 1).val < 1 := (x 1).isLt; omega
  have e2 : (x 2).val = 0 := by have h : (x 2).val < 1 := (x 2).isLt; omega
  refine (shapeCast_apply _ _ x (ix2 (x 3) (x 4)) ?_).trans ?_
  · rw [Shape.rowMajor_val_two, Shape.rowMajor_val_five, e0, e1, e2]
    simp
  · refine congrArg acc ?_
    funext a; apply Fin.ext; fin_cases a <;> rfl

/-- The tile's Fourier columns in the layout of the third result. -/
def GF (acc : FVec Ideal S512x512 .f32) (y : S1x4x4x128x128.Idx) : EReal :=
  acc (ix2 ⟨64 * ((y 3).val / 16) + 16 * (y 2).val + (y 3).val % 16, by have h : (y 3).val < 128 := (y 3).isLt; have h' : (y 2).val < 4 := (y 2).isLt; omega⟩
    ⟨128 * (y 1).val + (y 4).val, by have h : (y 4).val < 128 := (y 4).isLt; have h' : (y 1).val < 4 := (y 1).isLt; omega⟩)

theorem piece_at (acc : FVec Ideal S512x512 .f32) (g jb : Fin 4) (jj : Fin 8) (hs) (hc) (h) (x : S1x1x1x16x128.Idx) :
    shapeCast S1x1x1x16x128 (extractStridedSlice S16x128 ![64 * jj.val + 16 * jb.val, 128 * g.val] acc hs) hc x
      = GF acc ((Rect.unit (s := S1x4x4x128x128) ![0, g.val, jb.val, 16 * jj.val, 0] ![1, 1, 1, 16, 128] h).emb x) := by
  have e1 : (x 1).val = 0 := by have h : (x 1).val < 1 := (x 1).isLt; omega
  have e2 : (x 2).val = 0 := by have h : (x 2).val < 1 := (x 2).isLt; omega
  have h3 : (x 3).val < 16 := (x 3).isLt
  have hr : ∀ a, ((Rect.unit (s := S1x4x4x128x128) ![0, g.val, jb.val, 16 * jj.val, 0] ![1, 1, 1, 16, 128] h).emb x a).val = (![0, g.val, jb.val, 16 * jj.val, 0] : Fin 5 → ℕ) a + (x a).val := fun a => by
    show ((Rect.unit (s := S1x4x4x128x128) ![0, g.val, jb.val, 16 * jj.val, 0] ![1, 1, 1, 16, 128] h).idx x a).val = _
    simp [LoadRect.idx]
  have r1 := hr 1
  have r2 := hr 2
  have r3 := hr 3
  have r4 := hr 4
  have r1' : ((Rect.unit (s := S1x4x4x128x128) ![0, g.val, jb.val, 16 * jj.val, 0] ![1, 1, 1, 16, 128] h).emb x 1).val = g.val := by rw [r1, e1]; rfl
  have r2' : ((Rect.unit (s := S1x4x4x128x128) ![0, g.val, jb.val, 16 * jj.val, 0] ![1, 1, 1, 16, 128] h).emb x 2).val = jb.val := by rw [r2, e2]; rfl
  have r3' : ((Rect.unit (s := S1x4x4x128x128) ![0, g.val, jb.val, 16 * jj.val, 0] ![1, 1, 1, 16, 128] h).emb x 3).val = 16 * jj.val + (x 3).val := r3
  have r4' : ((Rect.unit (s := S1x4x4x128x128) ![0, g.val, jb.val, 16 * jj.val, 0] ![1, 1, 1, 16, 128] h).emb x 4).val = (x 4).val := by rw [r4]; exact Nat.zero_add _
  refine (tile_at acc _ _ hs hc (by have := jj.isLt; have := jb.isLt; omega) (by have := g.isLt; omega) x).trans ?_
  unfold GF
  refine congrArg acc (congrArg₂ (fun a b => ix2 (n0 := 512) (n1 := 512) a b) (Fin.ext ?_) (Fin.ext ?_))
  · dsimp only
    rw [r2', r3']; omega
  · dsimp only
    rw [r1', r4']

theorem sliceF (g jb : Fin 4) (jj : Fin 8) : S512x512.Slices ![64 * jj.val + 16 * jb.val, 128 * g.val] S16x128 := by
  revert g jb jj; decide +kernel
theorem castF : S16x128.ShapeCasts S1x1x1x16x128 := by decide +kernel
theorem inbF (g jb : Fin 4) (jj : Fin 8) : ∀ a, (![0, g.val, jb.val, 16 * jj.val, 0] : Fin 5 → ℕ) a + (![1, 1, 1, 16, 128] : Fin 5 → ℕ) a ≤ S1x4x4x128x128.size a := by
  intro a; have := g.isLt; have := jb.isLt; have := jj.isLt; fin_cases a <;> simp <;> omega

set_option maxHeartbeats 1600000 in
/-- The 128 stores of a grid point leave the tile's Fourier columns. -/
theorem out12_eq (x0 x1 x2 x3 x4 x5 x6 x7 x8 x9) :
    out0_12 (F := Ideal) x0 x1 x2 x3 x4 x5 x6 x7 x8 x9 = GF (k0_pay174 x0 x1 x2 x3 x4 x5 x6 x7 x8 x9) := by
  funext y
  have hp := fun (g jb : Fin 4) (jj : Fin 8) => piece_at (k0_pay174 (F := Ideal) x0 x1 x2 x3 x4 x5 x6 x7 x8 x9) g jb jj (sliceF g jb jj) castF (inbF g jb jj)
  have key : ∀ L : List (View.Piece (Elt Ideal) S1x4x4x128x128 .f32), View.PiecesOf (GF (k0_pay174 x0 x1 x2 x3 x4 x5 x6 x7 x8 x9)) L → (∃ p ∈ L, y ∈ p.1.set) →
      View.canon L y = GF (k0_pay174 x0 x1 x2 x3 x4 x5 x6 x7 x8 x9) y := fun L h hc => by
    have e := View.canon_append_of_piecesOf (Val := Elt Ideal) (s := S1x4x4x128x128) (e := .f32) (GF (k0_pay174 x0 x1 x2 x3 x4 x5 x6 x7 x8 x9)) [] L h y hc
    rwa [List.append_nil] at e
  unfold out0_12
  exact key _
    ⟨hp 3 3 7, hp 3 3 6, hp 3 3 5, hp 3 3 4, hp 3 3 3, hp 3 3 2, hp 3 3 1, hp 3 3 0,
      hp 3 2 7, hp 3 2 6, hp 3 2 5, hp 3 2 4, hp 3 2 3, hp 3 2 2, hp 3 2 1, hp 3 2 0,
      hp 3 1 7, hp 3 1 6, hp 3 1 5, hp 3 1 4, hp 3 1 3, hp 3 1 2, hp 3 1 1, hp 3 1 0,
      hp 3 0 7, hp 3 0 6, hp 3 0 5, hp 3 0 4, hp 3 0 3, hp 3 0 2, hp 3 0 1, hp 3 0 0,
      hp 2 3 7, hp 2 3 6, hp 2 3 5, hp 2 3 4, hp 2 3 3, hp 2 3 2, hp 2 3 1, hp 2 3 0,
      hp 2 2 7, hp 2 2 6, hp 2 2 5, hp 2 2 4, hp 2 2 3, hp 2 2 2, hp 2 2 1, hp 2 2 0,
      hp 2 1 7, hp 2 1 6, hp 2 1 5, hp 2 1 4, hp 2 1 3, hp 2 1 2, hp 2 1 1, hp 2 1 0,
      hp 2 0 7, hp 2 0 6, hp 2 0 5, hp 2 0 4, hp 2 0 3, hp 2 0 2, hp 2 0 1, hp 2 0 0,
      hp 1 3 7, hp 1 3 6, hp 1 3 5, hp 1 3 4, hp 1 3 3, hp 1 3 2, hp 1 3 1, hp 1 3 0,
      hp 1 2 7, hp 1 2 6, hp 1 2 5, hp 1 2 4, hp 1 2 3, hp 1 2 2, hp 1 2 1, hp 1 2 0,
      hp 1 1 7, hp 1 1 6, hp 1 1 5, hp 1 1 4, hp 1 1 3, hp 1 1 2, hp 1 1 1, hp 1 1 0,
      hp 1 0 7, hp 1 0 6, hp 1 0 5, hp 1 0 4, hp 1 0 3, hp 1 0 2, hp 1 0 1, hp 1 0 0,
      hp 0 3 7, hp 0 3 6, hp 0 3 5, hp 0 3 4, hp 0 3 3, hp 0 3 2, hp 0 3 1, hp 0 3 0,
      hp 0 2 7, hp 0 2 6, hp 0 2 5, hp 0 2 4, hp 0 2 3, hp 0 2 2, hp 0 2 1, hp 0 2 0,
      hp 0 1 7, hp 0 1 6, hp 0 1 5, hp 0 1 4, hp 0 1 3, hp 0 1 2, hp 0 1 1, hp 0 1 0,
      hp 0 0 7, hp 0 0 6, hp 0 0 5, hp 0 0 4, hp 0 0 3, hp 0 0 2, hp 0 0 1, hp 0 0 0, trivial⟩ (cover0_12 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
end Cert.Proj
end
-- ==== Proof.ProjFinal.lean ====
module

public import proofs.«01_k».proof.Proof.ProjKernel
public import proofs.«01_k».proof.Proof.ProjMath
public import proofs.«01_k».proof.Proof.ProjLat
public import proofs.«01_k».proof.Proof.AttFinal
public import proofs.«01_k».proof.Defs
public import proofs.«01_k».proof.Proof.Gen.Pre_finite_projection
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proj

open Idealize.ShloMosaic Idealize.ShloMosaic.TcCoe Idealize.SL.Sem Cert.Kernel2Ideal Cert.Kernel2Ideal.Gen

variable (m : (ℓ : Loc nD τ sig) → Buf (Elt Ideal) ℓ) (c : Dev nD)

/-- The precondition says that the modulations' first 2048 columns and the weights' rotary key columns are real. -/
theorem real_of (h : Cert.Pre_Kernel2Ideal_finite_projection m) :
    (∀ (R : Fin 4) (k : Fin 6144), k.val < 2048 → Rl (b9 m c (ix2 R k))) ∧
    (∀ k : Fin 6144, k.val < 2048 → Rl (b10 m c (ix1 k))) ∧
    (∀ (R : Fin 1024) (n : Fin 5536), 384 ≤ n.val → n.val < 416 → Rl (b11 m c (ix2 R n))) := by
  have e := congrFun (h c) (fun a => a.elim0)
  obtain ⟨e12, e3⟩ := IntOp.andi_eq_one.1 e
  obtain ⟨e1, e2⟩ := IntOp.andi_eq_one.1 e12
  refine ⟨fun R k hk => ⟨_, Eq.trans ?_ (Cert.Att.all_real _ _ _ _ _ e1 (ix2 (n0 := 4) (n1 := 2048) R ⟨k.val, hk⟩))⟩, fun k hk => ⟨_, Eq.trans ?_ (Cert.Att.all_real _ _ _ _ _ e2 (ix1 (n0 := 2048) ⟨k.val, hk⟩))⟩,
    fun R n h1 h2 => ⟨_, Eq.trans ?_ (Cert.Att.all_real _ _ _ _ _ e3 (ix2 (n0 := 1024) (n1 := 32) R ⟨n.val - 384, by omega⟩))⟩⟩
  · refine congrArg (b9 m c) (funext fun a => Fin.ext ?_)
    fin_cases a
    · show R.val = 0 + R.val; omega
    · show k.val = 0 + k.val; omega
  · refine congrArg (b10 m c) (funext fun a => Fin.ext ?_)
    fin_cases a
    show k.val = 0 + k.val; omega
  · refine congrArg (b11 m c) (funext fun a => Fin.ext ?_)
    fin_cases a
    · show R.val = 0 + R.val; omega
    · show n.val = 384 + (n.val - 384); omega

theorem gRow_real (x5 x6) (h5 : ∀ (R : Fin 4) (k : Fin 6144), k.val < 2048 → Rl (x5 (ix2 R k))) (h6 : ∀ k : Fin 6144, k.val < 2048 → Rl (x6 (ix1 k))) (o ho) (hlo : o ≤ 1024) (R : Fin 33792) (k : Fin 1024) : Rl (gRow x5 x6 o ho R k) := by
  unfold gRow; split_ifs
  · exact h6 _ (by dsimp only; omega)
  · exact h5 _ _ (by dsimp only; omega)

/-- The projection the kernel leaves is the reference's, its columns in their new order. -/
theorem final11 (h : Cert.Pre_Kernel2Ideal_finite_projection m) : (dats m 0 c).arrAt 11 cfg0.N = ordT (uT (b0 m c) (b1 m c) (b2 m c) (b3 m c) (b4 m c) (b5 m c) (b6 m c) (b7 m c) (b8 m c) (b9 m c) (b10 m c) (b11 m c) (b12 m c)) := by
  obtain ⟨h9, h10, h11⟩ := real_of m c h
  refine (dats m 0 c).arrAt_eq_of_covers 11 _ (by decide +kernel) fun t _ y => ?_
  blk_simp
  rw [after0_11, out11_eq]
  have hy : y = ix2 (n0 := 512) (n1 := 5632) (y 0) (y 1) := by funext a; fin_cases a <;> rfl
  refine Eq.trans ?_ (congrArg (ordT (uT (b0 m c) (b1 m c) (b2 m c) (b3 m c) (b4 m c) (b5 m c) (b6 m c) (b7 m c) (b8 m c) (b9 m c) (b10 m c) (b11 m c) (b12 m c))) (emb11 t y)).symm
  refine Eq.trans ?_ (ordT_at _ _ _).symm
  refine (congrArg _ hy).trans ((GU_row m c t (y 0) (y 1)).trans ?_)
  refine (ord_row _ (fun k n => b11 m c (ix2 k n)) (fun n => b12 m c (ix1 n)) (fun k => ?_) (fun k n => h11 _ _) (y 1)).trans ?_
  · exact modR_real _ _ _ (gRow_real _ _ h9 h10 _ _ (by omega) _) (gRow_real _ _ h9 h10 _ _ (by omega) _) k
  · exact congrArg (fun z => ordR z (y 1)) (funext fun n => (uT_at _ _ _ _ _ _ _ _ _ _ _ _ _ _ n).symm)

theorem idxF : ∀ t : Fin cfg0.N, win0_12.index t = ![(t.val - 2) / 16, 0, 0, (t.val - 2) % 16, 0] :=
  (by decide +kernel : ∀ t : Fin grid0.N, _)

theorem flush12 : ∀ t : Fin cfg0.N, (cfg0.win 12).flush t = true → 2 ≤ t.val :=
  (by decide +kernel : ∀ t : Fin grid0.N, _)

theorem emb12 (t : Fin cfg0.N) (y : S1x4x4x128x128.Idx) : (((View.whole main_v46_2).slice (win0_12.rect t)).emb y : S4x4x4x2048x128.Idx)
    = ix5 (n0 := 4) (n1 := 4) (n2 := 4) (n3 := 2048) (n4 := 128) ⟨(t.val - 2) / 16, by have : t.val < 66 := t.isLt; omega⟩ (y 1) (y 2) ⟨128 * ((t.val - 2) % 16) + (y 3).val, by have h : (y 3).val < 128 := (y 3).isLt; omega⟩ (y 4) := by
  blk_ext [idxF t]

/-- The first chunk's columns are the Fourier columns. -/
theorem acc_row (t : Fin cfg0.N) (r : Fin 512) (q : Fin 512) :
    k0_pay174 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r q)
      = uRow (hRow (xnRow (b0 m c) (b1 m c) (b2 m c) (b3 m c) (b4 m c) (b5 m c) (b6 m c) (b7 m c) (b8 m c) (rowOf t r)) (b9 m c) (b10 m c) (rowOf t r)) (b11 m c) (b12 m c) ⟨416 + q.val, by omega⟩ := by
  refine Eq.trans (?_ : _ = chunkU (k0_pay171 (F := Ideal) (iblk m c 0 t) (iblk m c 1 t) (iblk m c 2 t) (iblk m c 3 t) (iblk m c 4 t) (iblk m c 5 t) (iblk m c 6 t) (iblk m c 7 t) (iblk m c 8 t) (iblk m c 9 t)) (iblk m c 8 t) (iblk m c 9 t) 0 (ix2 r q)) ?_
  · rfl
  · refine (chunkU_at _ _ _ 0 (ix2 r q)).trans ?_
    have hq : (⟨512 * (0 : Fin 11).val + q.val, by show 0 + q.val < 5632; omega⟩ : Fin 5632) = ⟨q.val, by omega⟩ := Fin.ext (Nat.zero_add _)
    refine (congrArg (fun j => GU _ _ _ (ix2 r j)) hq).trans ((GU_row m c t r _).trans ?_)
    have ho : ∀ u : Fin 5536 → EReal, ordR u ⟨q.val, by omega⟩ = u ⟨416 + q.val, by omega⟩ := fun u => by
      unfold ordR; rw [dif_pos (by show q.val < 5120; omega)]
    unfold uRow
    rw [ho]
    refine congrArg (fun z : EReal => z + _) (Finset.sum_congr rfl fun k _ => ?_)
    rw [ho]

/-- The Fourier columns the kernel leaves are the reference's. -/
theorem final12 : (dats m 0 c).arrAt 12 cfg0.N = fT (uT (b0 m c) (b1 m c) (b2 m c) (b3 m c) (b4 m c) (b5 m c) (b6 m c) (b7 m c) (b8 m c) (b9 m c) (b10 m c) (b11 m c) (b12 m c)) := by
  refine (dats m 0 c).arrAt_eq_of_covers 12 _ (by decide +kernel) fun t hf y => ?_
  have ht := flush12 t hf
  have ht' : t.val < 66 := t.isLt
  blk_simp
  rw [after0_12, out12_eq]
  refine Eq.trans ?_ (congrArg (fT (uT (b0 m c) (b1 m c) (b2 m c) (b3 m c) (b4 m c) (b5 m c) (b6 m c) (b7 m c) (b8 m c) (b9 m c) (b10 m c) (b11 m c) (b12 m c))) (emb12 t y)).symm
  refine Eq.trans ?_ (fT_at _ _ _ _ _ _).symm
  refine Eq.trans ?_ (uT_at _ _ _ _ _ _ _ _ _ _ _ _ _ _ _).symm
  have h1 : (y 1).val < 4 := (y 1).isLt
  have h2 : (y 2).val < 4 := (y 2).isLt
  have h3 : (y 3).val < 128 := (y 3).isLt
  have h4 : (y 4).val < 128 := (y 4).isLt
  unfold GF
  refine (acc_row m c t _ _).trans ?_
  refine congrArg₂ (fun (R : Fin 33792) (n : Fin 5536) => uRow (hRow (xnRow (b0 m c) (b1 m c) (b2 m c) (b3 m c) (b4 m c) (b5 m c) (b6 m c) (b7 m c) (b8 m c) R) (b9 m c) (b10 m c) R) (b11 m c) (b12 m c) n) (Fin.ext ?_) (Fin.ext ?_)
  · dsimp only; omega
  · dsimp only; omega

/-- The results over the other program's copies of the arguments. -/
theorem final10_of (x0 x1 xY x4 x5 x6 x7 x8) (e0 : x0 = b0 m c) (e1 : x1 = b1 m c) (eY : xY = bY m c) (e4 : x4 = b4 m c) (e5 : x5 = b5 m c) (e6 : x6 = b6 m c) (e7 : x7 = b7 m c) (e8 : x8 = b8 m c) :
    xnT x0 x1 (ylo xY) (yhi xY) x4 x5 x6 x7 x8 = (dats m 0 c).arrAt 10 cfg0.N := by
  subst e0 e1 eY e4 e5 e6 e7 e8
  exact (final10 m c).symm

theorem final11_of (h : Cert.Pre_Kernel2Ideal_finite_projection m) (x0 x1 xY x4 x5 x6 x7 x8 x9 x10 x11 x12) (e0 : x0 = b0 m c) (e1 : x1 = b1 m c) (eY : xY = bY m c) (e4 : x4 = b4 m c) (e5 : x5 = b5 m c) (e6 : x6 = b6 m c) (e7 : x7 = b7 m c) (e8 : x8 = b8 m c) (e9 : x9 = b9 m c) (e10 : x10 = b10 m c) (e11 : x11 = b11 m c) (e12 : x12 = b12 m c) :
    ordT (uT x0 x1 (ylo xY) (yhi xY) x4 x5 x6 x7 x8 x9 x10 x11 x12) = (dats m 0 c).arrAt 11 cfg0.N := by
  subst e0 e1 eY e4 e5 e6 e7 e8 e9 e10 e11 e12
  exact (final11 m c h).symm

theorem final12_of (x0 x1 xY x4 x5 x6 x7 x8 x9 x10 x11 x12) (e0 : x0 = b0 m c) (e1 : x1 = b1 m c) (eY : xY = bY m c) (e4 : x4 = b4 m c) (e5 : x5 = b5 m c) (e6 : x6 = b6 m c) (e7 : x7 = b7 m c) (e8 : x8 = b8 m c) (e9 : x9 = b9 m c) (e10 : x10 = b10 m c) (e11 : x11 = b11 m c) (e12 : x12 = b12 m c) :
    fT (uT x0 x1 (ylo xY) (yhi xY) x4 x5 x6 x7 x8 x9 x10 x11 x12) = (dats m 0 c).arrAt 12 cfg0.N := by
  subst e0 e1 eY e4 e5 e6 e7 e8 e9 e10 e11 e12
  exact (final12 m c).symm
end Cert.Proj
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_queries_and_keys
public import proofs.«01_k».proof.Proof.AttFinal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Pre_finite_projection
public import proofs.«01_k».proof.Proof.ProjFinal
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The kernel's result array and the reference's are equal whenever the queries and the keys are finite. -/
theorem algebraic : Cert.algebraic_KernelIdeal_ReferenceIdeal_pre_finite_queries_and_keys := by
  pair_intro
  · run_from Cert.KernelIdeal.Value.run m g
  · hlo_run
    obtain ⟨-, -, e2, e3, e4, e5⟩ := hagree c
    exact Cert.Att.final_of m c hpre _ _ _ _ e2 e3 e4 e5

/-- The reference leaves its arguments as they were. -/
theorem frame_ref : Cert.quiescent_ReferenceIdeal := by
  intro m g _
  hlo_run
  · exact fun _ => ⟨trivial, trivial, trivial, trivial, trivial, trivial⟩
  · exact sem_eq_zero_of_no_sems (by decide) _

/-- The same, where the queries and the keys are finite. -/
theorem frame_ref_pre : Cert.quiescent_ReferenceIdeal_pre_finite_queries_and_keys := fun m g _ => frame_ref m g trivial

/-- The second kernel's three result arrays and its reference's are equal whenever the modulations and the weights' rotary key columns are finite. -/
theorem algebraic2 : Cert.algebraic_Kernel2Ideal_Reference2Ideal_pre_finite_projection := by
  pair_intro
  · run_from Cert.Kernel2Ideal.Value.run_blocks m g
  · run_from Cert.Reference2Ideal.Value.run m' g'
    · obtain ⟨e0, e1, e2, e3, e4, e5, e6, e7, e8, e9, e10, e11⟩ := hagree c
      exact Cert.Proj.final10_of m c _ _ _ _ _ _ _ _ e0 e1 e2 e3 e4 e5 e6 e7
    · obtain ⟨e0, e1, e2, e3, e4, e5, e6, e7, e8, e9, e10, e11⟩ := hagree c
      exact Cert.Proj.final11_of m c hpre _ _ _ _ _ _ _ _ _ _ _ _ e0 e1 e2 e3 e4 e5 e6 e7 e8 e9 e10 e11
    · obtain ⟨e0, e1, e2, e3, e4, e5, e6, e7, e8, e9, e10, e11⟩ := hagree c
      exact Cert.Proj.final12_of m c _ _ _ _ _ _ _ _ _ _ _ _ e0 e1 e2 e3 e4 e5 e6 e7 e8 e9 e10 e11

/-- The second reference leaves its arguments as they were. -/
theorem frame_ref2 : Cert.quiescent_Reference2Ideal := by
  intro m g _
  hlo_run
  · exact fun _ => ⟨trivial, trivial, trivial, trivial, trivial, trivial, trivial, trivial, trivial, trivial, trivial, trivial⟩
  · exact sem_eq_zero_of_no_sems (by decide) _

/-- The same, where those are finite. -/
theorem frame_ref2_pre : Cert.quiescent_Reference2Ideal_pre_finite_projection := fun m g _ => frame_ref2 m g trivial

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Pre_finite_queries_and_keys.Gen.facts, Cert.Pre_finite_projection.Gen.facts,
  fun m g _ => Cert.Kernel.Gen.frame m g, fun m g _ => Cert.KernelIdeal.Gen.frame m g, fun m g _ => Cert.KernelIdeal.Gen.frame m g,
  frame_ref, frame_ref_pre,
  fun m g _ => Cert.Kernel2.Gen.frame m g, fun m g _ => Cert.Kernel2Ideal.Gen.frame m g, fun m g _ => Cert.Kernel2Ideal.Gen.frame m g,
  frame_ref2, frame_ref2_pre, trivial, algebraic, trivial, algebraic2⟩

end Cert.Proof

end
